-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_image_finite [hPre_image_finite : Cert.Pre_image_finite.Facts] (m : (ℓ : Loc Cert.KernelIdeal.nD Cert.KernelIdeal.τ Cert.KernelIdeal.sig) → Buf (Elt Ideal) ℓ) : Prop :=
  ∀ c : Dev Cert.KernelIdeal.nD,
    (Cert.Pre_image_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_image_finite [hPre_image_finite : Cert.Pre_image_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_image_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_image_finite [hKernelIdeal : Cert.KernelIdeal.Facts] [hPre_image_finite : Cert.Pre_image_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_image_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_image_finite [hReferenceIdeal : Cert.ReferenceIdeal.Facts] [hPre_image_finite : Cert.Pre_image_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_image_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_image_finite [hKernelIdeal : Cert.KernelIdeal.Facts] [hReferenceIdeal : Cert.ReferenceIdeal.Facts] [hPre_image_finite : Cert.Pre_image_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_image_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v331)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v331) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v270) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_image_finite : Cert.Pre_image_finite.Facts),
    quiescent_Kernel (hKernel := hKernel)
    ∧ quiescent_KernelIdeal (hKernelIdeal := hKernelIdeal)
    ∧ quiescent_KernelIdeal_pre_image_finite (hKernelIdeal := hKernelIdeal) (hPre_image_finite := hPre_image_finite)
    ∧ quiescent_ReferenceIdeal (hReferenceIdeal := hReferenceIdeal)
    ∧ quiescent_ReferenceIdeal_pre_image_finite (hReferenceIdeal := hReferenceIdeal) (hPre_image_finite := hPre_image_finite)
    ∧ preserves_Kernel_KernelIdeal
    ∧ algebraic_KernelIdeal_ReferenceIdeal_pre_image_finite (hKernelIdeal := hKernelIdeal) (hReferenceIdeal := hReferenceIdeal) (hPre_image_finite := hPre_image_finite)
-- ==== Pre_image_finite.lean ====
abbrev S16x16x128x128x3x3 : Shape := ⟨6, ![16, 16, 128, 128, 3, 3]⟩
abbrev S16x16x8x3 : Shape := ⟨4, ![16, 16, 8, 3]⟩
abbrev S_ : Shape := ⟨0, ![]⟩

class Facts : Prop where
  bcast_S_S16x16x128x128x3x3 : S_.BroadcastsInDim S16x16x128x128x3x3 (![] : Fin 0 → Fin S16x16x128x128x3x3.rank)

variable [Facts]

def fn {F : FTy → Type} [FloatOps F] (main_arg0 : FVec F S16x16x128x128x3x3 .f32) (main_arg1 : FVec F S16x16x8x3 .f32) : IVec S16x16x128x128x3x3 1 :=
  let main_v0 : FVec F S16x16x128x128x3x3 .f32 := Host.absf main_arg0
  let main_cst : FVec F S_ .f32 := constant S_ .f32 0x7F800000#32
  let main_v1 : FVec F S16x16x128x128x3x3 .f32 := broadcastInDim S16x16x128x128x3x3 ![] bcast_S_S16x16x128x128x3x3 main_cst
  let main_v2 : IVec S16x16x128x128x3x3 1 := cmpf .olt main_v0 main_v1
  main_v2
-- ==== Kernel.lean ====
abbrev S16x16x128x128x3x3 : Shape := ⟨6, ![16, 16, 128, 128, 3, 3]⟩
abbrev S16x16x8x3 : Shape := ⟨4, ![16, 16, 8, 3]⟩
abbrev S3x3 : Shape := ⟨2, ![3, 3]⟩
abbrev S_ : Shape := ⟨0, ![]⟩
abbrev S3x3x1 : Shape := ⟨3, ![3, 3, 1]⟩
abbrev S16x16x3x3x3 : Shape := ⟨5, ![16, 16, 3, 3, 3]⟩
abbrev S16x16x3x3x1 : Shape := ⟨5, ![16, 16, 3, 3, 1]⟩
abbrev S16x16x3x3 : Shape := ⟨4, ![16, 16, 3, 3]⟩
abbrev S16x16x3x3x1x3 : Shape := ⟨6, ![16, 16, 3, 3, 1, 3]⟩
abbrev S16x16x3x3x3x3 : Shape := ⟨6, ![16, 16, 3, 3, 3, 3]⟩
abbrev S1 : Shape := ⟨1, ![1]⟩
abbrev S2 : Shape := ⟨1, ![2]⟩
abbrev S1x1x1x1x3x3 : Shape := ⟨6, ![1, 1, 1, 1, 3, 3]⟩
abbrev S16x16x3x3x1x1 : Shape := ⟨6, ![16, 16, 3, 3, 1, 1]⟩
abbrev S16x1x3x3x3x3 : Shape := ⟨6, ![16, 1, 3, 3, 3, 3]⟩
abbrev S16x3x3x3x3 : Shape := ⟨5, ![16, 3, 3, 3, 3]⟩
abbrev S9x9 : Shape := ⟨2, ![9, 9]⟩
abbrev S9x144 : Shape := ⟨2, ![9, 144]⟩
abbrev S16x1x1x3x3 : Shape := ⟨5, ![16, 1, 1, 3, 3]⟩
abbrev S16x3x3 : Shape := ⟨3, ![16, 3, 3]⟩
abbrev S16x3x3x1x1 : Shape := ⟨5, ![16, 3, 3, 1, 1]⟩
abbrev S3x3x16x3x3 : Shape := ⟨5, ![3, 3, 16, 3, 3]⟩
abbrev S45x144 : Shape := ⟨2, ![45, 144]⟩
abbrev S16x16x1x1x3x3 : Shape := ⟨6, ![16, 16, 1, 1, 3, 3]⟩
abbrev S16x3x3x16x3x3 : Shape := ⟨6, ![16, 3, 3, 16, 3, 3]⟩
abbrev S144x144 : Shape := ⟨2, ![144, 144]⟩
abbrev S1x144x144 : Shape := ⟨3, ![1, 144, 144]⟩
abbrev S12x144x144 : Shape := ⟨3, ![12, 144, 144]⟩
abbrev S16x1x128x128x3x3 : Shape := ⟨6, ![16, 1, 128, 128, 3, 3]⟩
abbrev S16x128x128x3x3 : Shape := ⟨5, ![16, 128, 128, 3, 3]⟩
abbrev S16x128x128x9 : Shape := ⟨4, ![16, 128, 128, 9]⟩
abbrev S16x130x128x9 : Shape := ⟨4, ![16, 130, 128, 9]⟩
abbrev S16x16x1x128x3x3 : Shape := ⟨6, ![16, 16, 1, 128, 3, 3]⟩
abbrev S16x16x128x3x3 : Shape := ⟨5, ![16, 16, 128, 3, 3]⟩
abbrev S16x128x16x3x3 : Shape := ⟨5, ![16, 128, 16, 3, 3]⟩
abbrev S16x128x144 : Shape := ⟨3, ![16, 128, 144]⟩
abbrev S16x16x128x1x3x3 : Shape := ⟨6, ![16, 16, 128, 1, 3, 3]⟩
abbrev S16x1x128x144 : Shape := ⟨4, ![16, 1, 128, 144]⟩
abbrev S16x4x128x144 : Shape := ⟨4, ![16, 4, 128, 144]⟩
abbrev S16x130x130x144 : Shape := ⟨4, ![16, 130, 130, 144]⟩
abbrev S1x65x128x9 : Shape := ⟨4, ![1, 65, 128, 9]⟩
abbrev S1x4x128x144 : Shape := ⟨4, ![1, 4, 128, 144]⟩
abbrev S1x65x130x144 : Shape := ⟨4, ![1, 65, 130, 144]⟩
abbrev S2x130x144 : Shape := ⟨3, ![2, 130, 144]⟩
abbrev S65x128x9 : Shape := ⟨3, ![65, 128, 9]⟩
abbrev S64x128x9 : Shape := ⟨3, ![64, 128, 9]⟩
abbrev S1x1x128x9 : Shape := ⟨4, ![1, 1, 128, 9]⟩
abbrev S1x128x9 : Shape := ⟨3, ![1, 128, 9]⟩
abbrev S65x1x9 : Shape := ⟨3, ![65, 1, 9]⟩
abbrev S65x127x9 : Shape := ⟨3, ![65, 127, 9]⟩
abbrev S65x128x45 : Shape := ⟨3, ![65, 128, 45]⟩
abbrev S8320x45 : Shape := ⟨2, ![8320, 45]⟩
abbrev S8320x144 : Shape := ⟨2, ![8320, 144]⟩
abbrev S65x128x144 : Shape := ⟨3, ![65, 128, 144]⟩
abbrev S1x65x128x144 : Shape := ⟨4, ![1, 65, 128, 144]⟩
abbrev S1x1x128x144 : Shape := ⟨4, ![1, 1, 128, 144]⟩
abbrev S128x144 : Shape := ⟨2, ![128, 144]⟩
abbrev S2x144 : Shape := ⟨2, ![2, 144]⟩
abbrev S130x144 : Shape := ⟨2, ![130, 144]⟩
abbrev S1x144 : Shape := ⟨2, ![1, 144]⟩
abbrev S1x130x144 : Shape := ⟨3, ![1, 130, 144]⟩
abbrev S1x65x144 : Shape := ⟨3, ![1, 65, 144]⟩
abbrev S65x144 : Shape := ⟨2, ![65, 144]⟩
abbrev S1x65x1x144 : Shape := ⟨4, ![1, 65, 1, 144]⟩
abbrev S1x1x130x144 : Shape := ⟨4, ![1, 1, 130, 144]⟩
abbrev S16x130x130x16x9 : Shape := ⟨5, ![16, 130, 130, 16, 9]⟩
abbrev S16x16x130x130x9 : Shape := ⟨5, ![16, 16, 130, 130, 9]⟩
abbrev S16x16x130x130x3x3 : Shape := ⟨6, ![16, 16, 130, 130, 3, 3]⟩

abbrev nBuf : Space → Nat
  | .hbm => 347
  | .vmem => 11
  | .smem => 0
  | _ => 0

abbrev hbmTy0_0 (i : Nat) : BufTy := match i % 128 with
  | 0 => ⟨S16x16x128x128x3x3, .f32⟩
  | 1 => ⟨S16x16x8x3, .f32⟩
  | 2 => ⟨S3x3, .i32⟩
  | 3 => ⟨S3x3, .i32⟩
  | 4 => ⟨S3x3, .i32⟩
  | 5 => ⟨S_, .i32⟩
  | 6 => ⟨S3x3, .i32⟩
  | 7 => ⟨S3x3, .i32⟩
  | 8 => ⟨S3x3, .i1⟩
  | 9 => ⟨S3x3, .f32⟩
  | 10 => ⟨S_, .i32⟩
  | 11 => ⟨S3x3, .i32⟩
  | 12 => ⟨S3x3, .i1⟩
  | 13 => ⟨S_, .i32⟩
  | 14 => ⟨S3x3, .i32⟩
  | 15 => ⟨S3x3, .i32⟩
  | 16 => ⟨S3x3, .i32⟩
  | 17 => ⟨S3x3x1, .i32⟩
  | 18 => ⟨S16x16x3x3x3, .f32⟩
  | 19 => ⟨S16x16x3x3x1, .f32⟩
  | 20 => ⟨S16x16x3x3, .f32⟩
  | 21 => ⟨S16x16x3x3x1, .f32⟩
  | 22 => ⟨S16x16x3x3, .f32⟩
  | 23 => ⟨S16x16x3x3x1, .f32⟩
  | 24 => ⟨S16x16x3x3, .f32⟩
  | 25 => ⟨S_, .f32⟩
  | 26 => ⟨S16x16x3x3, .f32⟩
  | 27 => ⟨S16x16x3x3x1, .f32⟩
  | 28 => ⟨S16x16x3x3x1, .f32⟩
  | 29 => ⟨S16x16x3x3x1, .f32⟩
  | 30 => ⟨S16x16x3x3x3, .f32⟩
  | 31 => ⟨S16x16x3x3, .f32⟩
  | 32 => ⟨S16x16x3x3x1, .f32⟩
  | 33 => ⟨S16x16x3x3x1, .f32⟩
  | 34 => ⟨S16x16x3x3x1, .f32⟩
  | 35 => ⟨S16x16x3x3x3, .f32⟩
  | 36 => ⟨S16x16x3x3, .f32⟩
  | 37 => ⟨S16x16x3x3, .f32⟩
  | 38 => ⟨S16x16x3x3x1, .f32⟩
  | 39 => ⟨S16x16x3x3x1, .f32⟩
  | 40 => ⟨S16x16x3x3x1, .f32⟩
  | 41 => ⟨S16x16x3x3x3, .f32⟩
  | 42 => ⟨S16x16x3x3x1x3, .f32⟩
  | 43 => ⟨S16x16x3x3x1x3, .f32⟩
  | 44 => ⟨S16x16x3x3x1x3, .f32⟩
  | 45 => ⟨S16x16x3x3x3x3, .f32⟩
  | 46 => ⟨S_, .i32⟩
  | 47 => ⟨S1, .i32⟩
  | 48 => ⟨S_, .i32⟩
  | 49 => ⟨S1, .i32⟩
  | 50 => ⟨S2, .i32⟩
  | 51 => ⟨S16x16x3x3, .f32⟩
  | 52 => ⟨S16x16x3x3x3x3, .f32⟩
  | 53 => ⟨S1x1x1x1x3x3, .f32⟩
  | 54 => ⟨S16x16x3x3x3x3, .f32⟩
  | 55 => ⟨S16x16x3x3x3x3, .f32⟩
  | 56 => ⟨S_, .i32⟩
  | 57 => ⟨S1, .i32⟩
  | 58 => ⟨S_, .i32⟩
  | 59 => ⟨S1, .i32⟩
  | 60 => ⟨S2, .i32⟩
  | 61 => ⟨S16x16x3x3, .f32⟩
  | 62 => ⟨S16x16x3x3x3x3, .f32⟩
  | 63 => ⟨S16x16x3x3x1x1, .f32⟩
  | 64 => ⟨S16x16x3x3, .f32⟩
  | 65 => ⟨S16x16x3x3x1x1, .f32⟩
  | 66 => ⟨S16x16x3x3, .f32⟩
  | 67 => ⟨S16x16x3x3x1x1, .f32⟩
  | 68 => ⟨S16x16x3x3, .f32⟩
  | 69 => ⟨S16x16x3x3x1x1, .f32⟩
  | 70 => ⟨S16x16x3x3, .f32⟩
  | 71 => ⟨S16x16x3x3x1x1, .f32⟩
  | 72 => ⟨S16x16x3x3, .f32⟩
  | 73 => ⟨S16x16x3x3x1x1, .f32⟩
  | 74 => ⟨S16x16x3x3, .f32⟩
  | 75 => ⟨S16x16x3x3x1x1, .f32⟩
  | 76 => ⟨S16x16x3x3, .f32⟩
  | 77 => ⟨S16x16x3x3x1x1, .f32⟩
  | 78 => ⟨S16x16x3x3, .f32⟩
  | 79 => ⟨S16x16x3x3x1x1, .f32⟩
  | 80 => ⟨S16x16x3x3, .f32⟩
  | 81 => ⟨S16x16x3x3, .f32⟩
  | 82 => ⟨S16x16x3x3, .f32⟩
  | 83 => ⟨S16x16x3x3, .f32⟩
  | 84 => ⟨S16x16x3x3, .f32⟩
  | 85 => ⟨S16x16x3x3, .f32⟩
  | 86 => ⟨S16x16x3x3, .f32⟩
  | 87 => ⟨S16x16x3x3, .f32⟩
  | 88 => ⟨S16x16x3x3, .f32⟩
  | 89 => ⟨S16x16x3x3, .f32⟩
  | 90 => ⟨S16x16x3x3, .f32⟩
  | 91 => ⟨S16x16x3x3, .f32⟩
  | 92 => ⟨S16x16x3x3, .f32⟩
  | 93 => ⟨S16x16x3x3, .f32⟩
  | 94 => ⟨S16x16x3x3, .f32⟩
  | 95 => ⟨S16x16x3x3, .f32⟩
  | 96 => ⟨S16x16x3x3, .f32⟩
  | 97 => ⟨S16x16x3x3, .f32⟩
  | 98 => ⟨S16x16x3x3, .f32⟩
  | 99 => ⟨S16x16x3x3, .f32⟩
  | 100 => ⟨S16x16x3x3, .f32⟩
  | 101 => ⟨S16x16x3x3, .f32⟩
  | 102 => ⟨S16x16x3x3, .f32⟩
  | 103 => ⟨S16x16x3x3, .f32⟩
  | 104 => ⟨S16x16x3x3x1, .f32⟩
  | 105 => ⟨S16x16x3x3x1, .f32⟩
  | 106 => ⟨S16x16x3x3x1, .f32⟩
  | 107 => ⟨S16x16x3x3x3, .f32⟩
  | 108 => ⟨S16x16x3x3, .f32⟩
  | 109 => ⟨S16x16x3x3, .f32⟩
  | 110 => ⟨S16x16x3x3, .f32⟩
  | 111 => ⟨S16x16x3x3, .f32⟩
  | 112 => ⟨S16x16x3x3, .f32⟩
  | 113 => ⟨S16x16x3x3, .f32⟩
  | 114 => ⟨S16x16x3x3, .f32⟩
  | 115 => ⟨S16x16x3x3, .f32⟩
  | 116 => ⟨S16x16x3x3, .f32⟩
  | 117 => ⟨S16x16x3x3x1, .f32⟩
  | 118 => ⟨S16x16x3x3x1, .f32⟩
  | 119 => ⟨S16x16x3x3x1, .f32⟩
  | 120 => ⟨S16x16x3x3x3, .f32⟩
  | 121 => ⟨S16x16x3x3, .f32⟩
  | 122 => ⟨S16x16x3x3, .f32⟩
  | 123 => ⟨S16x16x3x3, .f32⟩
  | 124 => ⟨S16x16x3x3, .f32⟩
  | 125 => ⟨S16x16x3x3, .f32⟩
  | 126 => ⟨S16x16x3x3, .f32⟩
  | 127 => ⟨S16x16x3x3, .f32⟩
  | _ => ⟨S16x16x128x128x3x3, .f32⟩

abbrev hbmTy0_1 (i : Nat) : BufTy := match i % 128 with
  | 0 => ⟨S16x16x3x3, .f32⟩
  | 1 => ⟨S16x16x3x3, .f32⟩
  | 2 => ⟨S16x16x3x3x1, .f32⟩
  | 3 => ⟨S16x16x3x3x1, .f32⟩
  | 4 => ⟨S16x16x3x3x1, .f32⟩
  | 5 => ⟨S16x16x3x3x3, .f32⟩
  | 6 => ⟨S16x16x3x3x1x3, .f32⟩
  | 7 => ⟨S16x16x3x3x1x3, .f32⟩
  | 8 => ⟨S16x16x3x3x1x3, .f32⟩
  | 9 => ⟨S16x16x3x3x3x3, .f32⟩
  | 10 => ⟨S_, .f32⟩
  | 11 => ⟨S16x16x3x3, .f32⟩
  | 12 => ⟨S16x16x3x3, .f32⟩
  | 13 => ⟨S16x16x3x3x1x1, .f32⟩
  | 14 => ⟨S16x16x3x3x3x3, .f32⟩
  | 15 => ⟨S16x16x3x3x3x3, .f32⟩
  | 16 => ⟨S1x1x1x1x3x3, .f32⟩
  | 17 => ⟨S16x16x3x3x3x3, .f32⟩
  | 18 => ⟨S16x16x3x3x3x3, .f32⟩
  | 19 => ⟨S16x16x3x3x3x3, .f32⟩
  | 20 => ⟨S16x1x3x3x3x3, .f32⟩
  | 21 => ⟨S16x3x3x3x3, .f32⟩
  | 22 => ⟨S9x9, .i32⟩
  | 23 => ⟨S9x9, .i32⟩
  | 24 => ⟨S_, .i32⟩
  | 25 => ⟨S9x9, .i32⟩
  | 26 => ⟨S9x9, .i32⟩
  | 27 => ⟨S9x9, .i1⟩
  | 28 => ⟨S9x9, .f32⟩
  | 29 => ⟨S9x144, .f32⟩
  | 30 => ⟨S16x1x1x3x3, .f32⟩
  | 31 => ⟨S16x3x3, .f32⟩
  | 32 => ⟨S16x3x3x1x1, .f32⟩
  | 33 => ⟨S16x1x1x3x3, .f32⟩
  | 34 => ⟨S16x3x3x3x3, .f32⟩
  | 35 => ⟨S16x3x3x3x3, .f32⟩
  | 36 => ⟨S16x3x3x3x3, .f32⟩
  | 37 => ⟨S3x3x16x3x3, .f32⟩
  | 38 => ⟨S9x144, .f32⟩
  | 39 => ⟨S16x1x1x3x3, .f32⟩
  | 40 => ⟨S16x3x3, .f32⟩
  | 41 => ⟨S16x3x3x1x1, .f32⟩
  | 42 => ⟨S16x1x1x3x3, .f32⟩
  | 43 => ⟨S16x3x3x3x3, .f32⟩
  | 44 => ⟨S16x3x3x3x3, .f32⟩
  | 45 => ⟨S16x3x3x3x3, .f32⟩
  | 46 => ⟨S3x3x16x3x3, .f32⟩
  | 47 => ⟨S9x144, .f32⟩
  | 48 => ⟨S16x1x1x3x3, .f32⟩
  | 49 => ⟨S16x3x3, .f32⟩
  | 50 => ⟨S16x3x3x1x1, .f32⟩
  | 51 => ⟨S16x1x1x3x3, .f32⟩
  | 52 => ⟨S16x3x3x3x3, .f32⟩
  | 53 => ⟨S16x3x3x3x3, .f32⟩
  | 54 => ⟨S16x3x3x3x3, .f32⟩
  | 55 => ⟨S3x3x16x3x3, .f32⟩
  | 56 => ⟨S9x144, .f32⟩
  | 57 => ⟨S16x1x1x3x3, .f32⟩
  | 58 => ⟨S16x3x3, .f32⟩
  | 59 => ⟨S16x3x3x1x1, .f32⟩
  | 60 => ⟨S16x1x1x3x3, .f32⟩
  | 61 => ⟨S16x3x3x3x3, .f32⟩
  | 62 => ⟨S16x3x3x3x3, .f32⟩
  | 63 => ⟨S16x3x3x3x3, .f32⟩
  | 64 => ⟨S3x3x16x3x3, .f32⟩
  | 65 => ⟨S9x144, .f32⟩
  | 66 => ⟨S45x144, .f32⟩
  | 67 => ⟨S16x16x1x1x3x3, .f32⟩
  | 68 => ⟨S16x16x3x3, .f32⟩
  | 69 => ⟨S16x16x3x3x1x1, .f32⟩
  | 70 => ⟨S16x16x1x1x3x3, .f32⟩
  | 71 => ⟨S16x16x3x3x3x3, .f32⟩
  | 72 => ⟨S16x16x3x3x3x3, .f32⟩
  | 73 => ⟨S16x16x3x3x3x3, .f32⟩
  | 74 => ⟨S16x3x3x16x3x3, .f32⟩
  | 75 => ⟨S144x144, .f32⟩
  | 76 => ⟨S16x16x1x1x3x3, .f32⟩
  | 77 => ⟨S16x16x3x3, .f32⟩
  | 78 => ⟨S16x16x3x3x1x1, .f32⟩
  | 79 => ⟨S16x16x1x1x3x3, .f32⟩
  | 80 => ⟨S16x16x3x3x3x3, .f32⟩
  | 81 => ⟨S16x16x3x3x3x3, .f32⟩
  | 82 => ⟨S16x16x3x3x3x3, .f32⟩
  | 83 => ⟨S16x3x3x16x3x3, .f32⟩
  | 84 => ⟨S144x144, .f32⟩
  | 85 => ⟨S16x16x1x1x3x3, .f32⟩
  | 86 => ⟨S16x16x3x3, .f32⟩
  | 87 => ⟨S16x16x3x3x1x1, .f32⟩
  | 88 => ⟨S16x16x1x1x3x3, .f32⟩
  | 89 => ⟨S16x16x3x3x3x3, .f32⟩
  | 90 => ⟨S16x16x3x3x3x3, .f32⟩
  | 91 => ⟨S16x16x3x3x3x3, .f32⟩
  | 92 => ⟨S16x3x3x16x3x3, .f32⟩
  | 93 => ⟨S144x144, .f32⟩
  | 94 => ⟨S16x16x1x1x3x3, .f32⟩
  | 95 => ⟨S16x16x3x3, .f32⟩
  | 96 => ⟨S16x16x3x3x1x1, .f32⟩
  | 97 => ⟨S16x16x1x1x3x3, .f32⟩
  | 98 => ⟨S16x16x3x3x3x3, .f32⟩
  | 99 => ⟨S16x16x3x3x3x3, .f32⟩
  | 100 => ⟨S16x16x3x3x3x3, .f32⟩
  | 101 => ⟨S16x3x3x16x3x3, .f32⟩
  | 102 => ⟨S144x144, .f32⟩
  | 103 => ⟨S16x16x1x1x3x3, .f32⟩
  | 104 => ⟨S16x16x3x3, .f32⟩
  | 105 => ⟨S16x16x3x3x1x1, .f32⟩
  | 106 => ⟨S16x16x1x1x3x3, .f32⟩
  | 107 => ⟨S16x16x3x3x3x3, .f32⟩
  | 108 => ⟨S16x16x3x3x3x3, .f32⟩
  | 109 => ⟨S16x16x3x3x3x3, .f32⟩
  | 110 => ⟨S16x3x3x16x3x3, .f32⟩
  | 111 => ⟨S144x144, .f32⟩
  | 112 => ⟨S16x16x1x1x3x3, .f32⟩
  | 113 => ⟨S16x16x3x3, .f32⟩
  | 114 => ⟨S16x16x3x3x1x1, .f32⟩
  | 115 => ⟨S16x16x1x1x3x3, .f32⟩
  | 116 => ⟨S16x16x3x3x3x3, .f32⟩
  | 117 => ⟨S16x16x3x3x3x3, .f32⟩
  | 118 => ⟨S16x16x3x3x3x3, .f32⟩
  | 119 => ⟨S16x3x3x16x3x3, .f32⟩
  | 120 => ⟨S144x144, .f32⟩
  | 121 => ⟨S16x16x1x1x3x3, .f32⟩
  | 122 => ⟨S16x16x3x3, .f32⟩
  | 123 => ⟨S16x16x3x3x1x1, .f32⟩
  | 124 => ⟨S16x16x1x1x3x3, .f32⟩
  | 125 => ⟨S16x16x3x3x3x3, .f32⟩
  | 126 => ⟨S16x16x3x3x3x3, .f32⟩
  | 127 => ⟨S16x16x3x3x3x3, .f32⟩
  | _ => ⟨S16x16x128x128x3x3, .f32⟩

abbrev hbmTy0_2 (i : Nat) : BufTy := match i % 128 with
  | 0 => ⟨S16x3x3x16x3x3, .f32⟩
  | 1 => ⟨S144x144, .f32⟩
  | 2 => ⟨S16x16x1x1x3x3, .f32⟩
  | 3 => ⟨S16x16x3x3, .f32⟩
  | 4 => ⟨S16x16x3x3x1x1, .f32⟩
  | 5 => ⟨S16x16x1x1x3x3, .f32⟩
  | 6 => ⟨S16x16x3x3x3x3, .f32⟩
  | 7 => ⟨S16x16x3x3x3x3, .f32⟩
  | 8 => ⟨S16x16x3x3x3x3, .f32⟩
  | 9 => ⟨S16x3x3x16x3x3, .f32⟩
  | 10 => ⟨S144x144, .f32⟩
  | 11 => ⟨S16x16x1x1x3x3, .f32⟩
  | 12 => ⟨S16x16x3x3, .f32⟩
  | 13 => ⟨S16x16x3x3x1x1, .f32⟩
  | 14 => ⟨S16x16x1x1x3x3, .f32⟩
  | 15 => ⟨S16x16x3x3x3x3, .f32⟩
  | 16 => ⟨S16x16x3x3x3x3, .f32⟩
  | 17 => ⟨S16x16x3x3x3x3, .f32⟩
  | 18 => ⟨S16x3x3x16x3x3, .f32⟩
  | 19 => ⟨S144x144, .f32⟩
  | 20 => ⟨S16x16x1x1x3x3, .f32⟩
  | 21 => ⟨S16x16x3x3, .f32⟩
  | 22 => ⟨S16x16x3x3x1x1, .f32⟩
  | 23 => ⟨S16x16x1x1x3x3, .f32⟩
  | 24 => ⟨S16x16x3x3x3x3, .f32⟩
  | 25 => ⟨S16x16x3x3x3x3, .f32⟩
  | 26 => ⟨S16x16x3x3x3x3, .f32⟩
  | 27 => ⟨S16x3x3x16x3x3, .f32⟩
  | 28 => ⟨S144x144, .f32⟩
  | 29 => ⟨S16x16x1x1x3x3, .f32⟩
  | 30 => ⟨S16x16x3x3, .f32⟩
  | 31 => ⟨S16x16x3x3x1x1, .f32⟩
  | 32 => ⟨S16x16x1x1x3x3, .f32⟩
  | 33 => ⟨S16x16x3x3x3x3, .f32⟩
  | 34 => ⟨S16x16x3x3x3x3, .f32⟩
  | 35 => ⟨S16x16x3x3x3x3, .f32⟩
  | 36 => ⟨S16x3x3x16x3x3, .f32⟩
  | 37 => ⟨S144x144, .f32⟩
  | 38 => ⟨S16x16x1x1x3x3, .f32⟩
  | 39 => ⟨S16x16x3x3, .f32⟩
  | 40 => ⟨S16x16x3x3x1x1, .f32⟩
  | 41 => ⟨S16x16x1x1x3x3, .f32⟩
  | 42 => ⟨S16x16x3x3x3x3, .f32⟩
  | 43 => ⟨S16x16x3x3x3x3, .f32⟩
  | 44 => ⟨S16x16x3x3x3x3, .f32⟩
  | 45 => ⟨S16x3x3x16x3x3, .f32⟩
  | 46 => ⟨S144x144, .f32⟩
  | 47 => ⟨S1x144x144, .f32⟩
  | 48 => ⟨S1x144x144, .f32⟩
  | 49 => ⟨S1x144x144, .f32⟩
  | 50 => ⟨S1x144x144, .f32⟩
  | 51 => ⟨S1x144x144, .f32⟩
  | 52 => ⟨S1x144x144, .f32⟩
  | 53 => ⟨S1x144x144, .f32⟩
  | 54 => ⟨S1x144x144, .f32⟩
  | 55 => ⟨S1x144x144, .f32⟩
  | 56 => ⟨S1x144x144, .f32⟩
  | 57 => ⟨S1x144x144, .f32⟩
  | 58 => ⟨S1x144x144, .f32⟩
  | 59 => ⟨S12x144x144, .f32⟩
  | 60 => ⟨S16x1x128x128x3x3, .f32⟩
  | 61 => ⟨S16x128x128x3x3, .f32⟩
  | 62 => ⟨S16x128x128x9, .f32⟩
  | 63 => ⟨S_, .i32⟩
  | 64 => ⟨S_, .f32⟩
  | 65 => ⟨S16x130x128x9, .f32⟩
  | 66 => ⟨S16x16x1x128x3x3, .f32⟩
  | 67 => ⟨S16x16x128x3x3, .f32⟩
  | 68 => ⟨S16x128x16x3x3, .f32⟩
  | 69 => ⟨S16x128x144, .f32⟩
  | 70 => ⟨S16x16x1x128x3x3, .f32⟩
  | 71 => ⟨S16x16x128x3x3, .f32⟩
  | 72 => ⟨S16x128x16x3x3, .f32⟩
  | 73 => ⟨S16x128x144, .f32⟩
  | 74 => ⟨S16x16x128x1x3x3, .f32⟩
  | 75 => ⟨S16x16x128x3x3, .f32⟩
  | 76 => ⟨S16x128x16x3x3, .f32⟩
  | 77 => ⟨S16x128x144, .f32⟩
  | 78 => ⟨S16x16x128x1x3x3, .f32⟩
  | 79 => ⟨S16x16x128x3x3, .f32⟩
  | 80 => ⟨S16x128x16x3x3, .f32⟩
  | 81 => ⟨S16x128x144, .f32⟩
  | 82 => ⟨S16x1x128x144, .f32⟩
  | 83 => ⟨S16x1x128x144, .f32⟩
  | 84 => ⟨S16x1x128x144, .f32⟩
  | 85 => ⟨S16x1x128x144, .f32⟩
  | 86 => ⟨S16x4x128x144, .f32⟩
  | 87 => ⟨S16x130x130x144, .f32⟩
  | 88 => ⟨S16x130x130x16x9, .f32⟩
  | 89 => ⟨S16x16x130x130x9, .f32⟩
  | 90 => ⟨S16x16x130x130x3x3, .f32⟩
  | _ => ⟨S16x16x128x128x3x3, .f32⟩

abbrev hbmTy (i : Nat) : BufTy := match i / 128 with
  | 0 => hbmTy0_0 i
  | 1 => hbmTy0_1 i
  | 2 => hbmTy0_2 i
  | _ => ⟨S16x16x128x128x3x3, .f32⟩

abbrev bufTy : (tb : Table) → Fin (tcTables nBuf tb) → BufTy
  | .hbm, ⟨i, _⟩ => hbmTy i
  | .local _ .vmem, ⟨0, _⟩ => ⟨S1x65x128x9, .f32⟩
  | .local _ .vmem, ⟨1, _⟩ => ⟨S1x65x128x9, .f32⟩
  | .local _ .vmem, ⟨2, _⟩ => ⟨S1x65x128x9, .f32⟩
  | .local _ .vmem, ⟨3, _⟩ => ⟨S1x65x128x9, .f32⟩
  | .local _ .vmem, ⟨4, _⟩ => ⟨S1x4x128x144, .f32⟩
  | .local _ .vmem, ⟨5, _⟩ => ⟨S1x4x128x144, .f32⟩
  | .local _ .vmem, ⟨6, _⟩ => ⟨S45x144, .f32⟩
  | .local _ .vmem, ⟨7, _⟩ => ⟨S12x144x144, .f32⟩
  | .local _ .vmem, ⟨8, _⟩ => ⟨S1x65x130x144, .f32⟩
  | .local _ .vmem, ⟨9, _⟩ => ⟨S1x65x130x144, .f32⟩
  | .local _ .vmem, ⟨10, _⟩ => ⟨S2x130x144, .f32⟩
  | _, _ => ⟨S16x16x128x128x3x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c_1 : Ref sig .tc := ⟨.hbm, 10, rfl⟩
abbrev main_v6 : Ref sig .tc := ⟨.hbm, 11, rfl⟩
abbrev main_v7 : Ref sig .tc := ⟨.hbm, 12, rfl⟩
abbrev main_c_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_c_3 : Ref sig .tc := ⟨.hbm, 46, rfl⟩
abbrev main_v39 : Ref sig .tc := ⟨.hbm, 47, rfl⟩
abbrev main_c_4 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_c_5 : Ref sig .tc := ⟨.hbm, 56, rfl⟩
abbrev main_v47 : Ref sig .tc := ⟨.hbm, 57, rfl⟩
abbrev main_c_6 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_v102 : Ref sig .tc := ⟨.hbm, 113, rfl⟩
abbrev main_v103 : Ref sig .tc := ⟨.hbm, 114, rfl⟩
abbrev main_v104 : Ref sig .tc := ⟨.hbm, 115, rfl⟩
abbrev main_v105 : Ref sig .tc := ⟨.hbm, 116, rfl⟩
abbrev main_v106 : Ref sig .tc := ⟨.hbm, 117, rfl⟩
abbrev main_v107 : Ref sig .tc := ⟨.hbm, 118, rfl⟩
abbrev main_v108 : Ref sig .tc := ⟨.hbm, 119, rfl⟩
abbrev main_v109 : Ref sig .tc := ⟨.hbm, 120, rfl⟩
abbrev main_v110 : Ref sig .tc := ⟨.hbm, 121, rfl⟩
abbrev main_v111 : Ref sig .tc := ⟨.hbm, 122, rfl⟩
abbrev main_v112 : Ref sig .tc := ⟨.hbm, 123, rfl⟩
abbrev main_v113 : Ref sig .tc := ⟨.hbm, 124, rfl⟩
abbrev main_v114 : Ref sig .tc := ⟨.hbm, 125, rfl⟩
abbrev main_v115 : Ref sig .tc := ⟨.hbm, 126, rfl⟩
abbrev main_v116 : Ref sig .tc := ⟨.hbm, 127, rfl⟩
abbrev main_v117 : Ref sig .tc := ⟨.hbm, 128, rfl⟩
abbrev main_v118 : Ref sig .tc := ⟨.hbm, 129, rfl⟩
abbrev main_v119 : Ref sig .tc := ⟨.hbm, 130, rfl⟩
abbrev main_v120 : Ref sig .tc := ⟨.hbm, 131, rfl⟩
abbrev main_v121 : Ref sig .tc := ⟨.hbm, 132, rfl⟩
abbrev main_v122 : Ref sig .tc := ⟨.hbm, 133, rfl⟩
abbrev main_v123 : Ref sig .tc := ⟨.hbm, 134, rfl⟩
abbrev main_v124 : Ref sig .tc := ⟨.hbm, 135, rfl⟩
abbrev main_v125 : Ref sig .tc := ⟨.hbm, 136, rfl⟩
abbrev main_v126 : Ref sig .tc := ⟨.hbm, 137, rfl⟩
abbrev main_cst_7 : Ref sig .tc := ⟨.hbm, 138, rfl⟩
abbrev main_v127 : Ref sig .tc := ⟨.hbm, 139, rfl⟩
abbrev main_v128 : Ref sig .tc := ⟨.hbm, 140, rfl⟩
abbrev main_v129 : Ref sig .tc := ⟨.hbm, 141, rfl⟩
abbrev main_v130 : Ref sig .tc := ⟨.hbm, 142, rfl⟩
abbrev main_v131 : Ref sig .tc := ⟨.hbm, 143, rfl⟩
abbrev main_v132 : Ref sig .tc := ⟨.hbm, 144, rfl⟩
abbrev main_v133 : Ref sig .tc := ⟨.hbm, 145, rfl⟩
abbrev main_v134 : Ref sig .tc := ⟨.hbm, 146, rfl⟩
abbrev main_v135 : Ref sig .tc := ⟨.hbm, 147, rfl⟩
abbrev main_v136 : Ref sig .tc := ⟨.hbm, 148, rfl⟩
abbrev main_v137 : Ref sig .tc := ⟨.hbm, 149, rfl⟩
abbrev main_v138 : Ref sig .tc := ⟨.hbm, 150, rfl⟩
abbrev main_v139 : Ref sig .tc := ⟨.hbm, 151, rfl⟩
abbrev main_c_8 : Ref sig .tc := ⟨.hbm, 152, rfl⟩
abbrev main_v140 : Ref sig .tc := ⟨.hbm, 153, rfl⟩
abbrev main_v141 : Ref sig .tc := ⟨.hbm, 154, rfl⟩
abbrev main_v142 : Ref sig .tc := ⟨.hbm, 155, rfl⟩
abbrev main_v143 : Ref sig .tc := ⟨.hbm, 156, rfl⟩
abbrev main_v144 : Ref sig .tc := ⟨.hbm, 157, rfl⟩
abbrev main_v145 : Ref sig .tc := ⟨.hbm, 158, rfl⟩
abbrev main_v146 : Ref sig .tc := ⟨.hbm, 159, rfl⟩
abbrev main_v147 : Ref sig .tc := ⟨.hbm, 160, rfl⟩
abbrev main_v148 : Ref sig .tc := ⟨.hbm, 161, rfl⟩
abbrev main_v149 : Ref sig .tc := ⟨.hbm, 162, rfl⟩
abbrev main_v150 : Ref sig .tc := ⟨.hbm, 163, rfl⟩
abbrev main_v151 : Ref sig .tc := ⟨.hbm, 164, rfl⟩
abbrev main_v152 : Ref sig .tc := ⟨.hbm, 165, rfl⟩
abbrev main_v153 : Ref sig .tc := ⟨.hbm, 166, rfl⟩
abbrev main_v154 : Ref sig .tc := ⟨.hbm, 167, rfl⟩
abbrev main_v155 : Ref sig .tc := ⟨.hbm, 168, rfl⟩
abbrev main_v156 : Ref sig .tc := ⟨.hbm, 169, rfl⟩
abbrev main_v157 : Ref sig .tc := ⟨.hbm, 170, rfl⟩
abbrev main_v158 : Ref sig .tc := ⟨.hbm, 171, rfl⟩
abbrev main_v159 : Ref sig .tc := ⟨.hbm, 172, rfl⟩
abbrev main_v160 : Ref sig .tc := ⟨.hbm, 173, rfl⟩
abbrev main_v161 : Ref sig .tc := ⟨.hbm, 174, rfl⟩
abbrev main_v162 : Ref sig .tc := ⟨.hbm, 175, rfl⟩
abbrev main_v163 : Ref sig .tc := ⟨.hbm, 176, rfl⟩
abbrev main_v164 : Ref sig .tc := ⟨.hbm, 177, rfl⟩
abbrev main_v165 : Ref sig .tc := ⟨.hbm, 178, rfl⟩
abbrev main_v166 : Ref sig .tc := ⟨.hbm, 179, rfl⟩
abbrev main_v167 : Ref sig .tc := ⟨.hbm, 180, rfl⟩
abbrev main_v168 : Ref sig .tc := ⟨.hbm, 181, rfl⟩
abbrev main_v169 : Ref sig .tc := ⟨.hbm, 182, rfl⟩
abbrev main_v170 : Ref sig .tc := ⟨.hbm, 183, rfl⟩
abbrev main_v171 : Ref sig .tc := ⟨.hbm, 184, rfl⟩
abbrev main_v172 : Ref sig .tc := ⟨.hbm, 185, rfl⟩
abbrev main_v173 : Ref sig .tc := ⟨.hbm, 186, rfl⟩
abbrev main_v174 : Ref sig .tc := ⟨.hbm, 187, rfl⟩
abbrev main_v175 : Ref sig .tc := ⟨.hbm, 188, rfl⟩
abbrev main_v176 : Ref sig .tc := ⟨.hbm, 189, rfl⟩
abbrev main_v177 : Ref sig .tc := ⟨.hbm, 190, rfl⟩
abbrev main_v178 : Ref sig .tc := ⟨.hbm, 191, rfl⟩
abbrev main_v179 : Ref sig .tc := ⟨.hbm, 192, rfl⟩
abbrev main_v180 : Ref sig .tc := ⟨.hbm, 193, rfl⟩
abbrev main_v181 : Ref sig .tc := ⟨.hbm, 194, rfl⟩
abbrev main_v182 : Ref sig .tc := ⟨.hbm, 195, rfl⟩
abbrev main_v183 : Ref sig .tc := ⟨.hbm, 196, rfl⟩
abbrev main_v184 : Ref sig .tc := ⟨.hbm, 197, rfl⟩
abbrev main_v185 : Ref sig .tc := ⟨.hbm, 198, rfl⟩
abbrev main_v186 : Ref sig .tc := ⟨.hbm, 199, rfl⟩
abbrev main_v187 : Ref sig .tc := ⟨.hbm, 200, rfl⟩
abbrev main_v188 : Ref sig .tc := ⟨.hbm, 201, rfl⟩
abbrev main_v189 : Ref sig .tc := ⟨.hbm, 202, rfl⟩
abbrev main_v190 : Ref sig .tc := ⟨.hbm, 203, rfl⟩
abbrev main_v191 : Ref sig .tc := ⟨.hbm, 204, rfl⟩
abbrev main_v192 : Ref sig .tc := ⟨.hbm, 205, rfl⟩
abbrev main_v193 : Ref sig .tc := ⟨.hbm, 206, rfl⟩
abbrev main_v194 : Ref sig .tc := ⟨.hbm, 207, rfl⟩
abbrev main_v195 : Ref sig .tc := ⟨.hbm, 208, rfl⟩
abbrev main_v196 : Ref sig .tc := ⟨.hbm, 209, rfl⟩
abbrev main_v197 : Ref sig .tc := ⟨.hbm, 210, rfl⟩
abbrev main_v198 : Ref sig .tc := ⟨.hbm, 211, rfl⟩
abbrev main_v199 : Ref sig .tc := ⟨.hbm, 212, rfl⟩
abbrev main_v200 : Ref sig .tc := ⟨.hbm, 213, rfl⟩
abbrev main_v201 : Ref sig .tc := ⟨.hbm, 214, rfl⟩
abbrev main_v202 : Ref sig .tc := ⟨.hbm, 215, rfl⟩
abbrev main_v203 : Ref sig .tc := ⟨.hbm, 216, rfl⟩
abbrev main_v204 : Ref sig .tc := ⟨.hbm, 217, rfl⟩
abbrev main_v205 : Ref sig .tc := ⟨.hbm, 218, rfl⟩
abbrev main_v206 : Ref sig .tc := ⟨.hbm, 219, rfl⟩
abbrev main_v207 : Ref sig .tc := ⟨.hbm, 220, rfl⟩
abbrev main_v208 : Ref sig .tc := ⟨.hbm, 221, rfl⟩
abbrev main_v209 : Ref sig .tc := ⟨.hbm, 222, rfl⟩
abbrev main_v210 : Ref sig .tc := ⟨.hbm, 223, rfl⟩
abbrev main_v211 : Ref sig .tc := ⟨.hbm, 224, rfl⟩
abbrev main_v212 : Ref sig .tc := ⟨.hbm, 225, rfl⟩
abbrev main_v213 : Ref sig .tc := ⟨.hbm, 226, rfl⟩
abbrev main_v214 : Ref sig .tc := ⟨.hbm, 227, rfl⟩
abbrev main_v215 : Ref sig .tc := ⟨.hbm, 228, rfl⟩
abbrev main_v216 : Ref sig .tc := ⟨.hbm, 229, rfl⟩
abbrev main_v217 : Ref sig .tc := ⟨.hbm, 230, rfl⟩
abbrev main_v218 : Ref sig .tc := ⟨.hbm, 231, rfl⟩
abbrev main_v219 : Ref sig .tc := ⟨.hbm, 232, rfl⟩
abbrev main_v220 : Ref sig .tc := ⟨.hbm, 233, rfl⟩
abbrev main_v221 : Ref sig .tc := ⟨.hbm, 234, rfl⟩
abbrev main_v222 : Ref sig .tc := ⟨.hbm, 235, rfl⟩
abbrev main_v223 : Ref sig .tc := ⟨.hbm, 236, rfl⟩
abbrev main_v224 : Ref sig .tc := ⟨.hbm, 237, rfl⟩
abbrev main_v225 : Ref sig .tc := ⟨.hbm, 238, rfl⟩
abbrev main_v226 : Ref sig .tc := ⟨.hbm, 239, rfl⟩
abbrev main_v227 : Ref sig .tc := ⟨.hbm, 240, rfl⟩
abbrev main_v228 : Ref sig .tc := ⟨.hbm, 241, rfl⟩
abbrev main_v229 : Ref sig .tc := ⟨.hbm, 242, rfl⟩
abbrev main_v230 : Ref sig .tc := ⟨.hbm, 243, rfl⟩
abbrev main_v231 : Ref sig .tc := ⟨.hbm, 244, rfl⟩
abbrev main_v232 : Ref sig .tc := ⟨.hbm, 245, rfl⟩
abbrev main_v233 : Ref sig .tc := ⟨.hbm, 246, rfl⟩
abbrev main_v234 : Ref sig .tc := ⟨.hbm, 247, rfl⟩
abbrev main_v235 : Ref sig .tc := ⟨.hbm, 248, rfl⟩
abbrev main_v236 : Ref sig .tc := ⟨.hbm, 249, rfl⟩
abbrev main_v237 : Ref sig .tc := ⟨.hbm, 250, rfl⟩
abbrev main_v238 : Ref sig .tc := ⟨.hbm, 251, rfl⟩
abbrev main_v239 : Ref sig .tc := ⟨.hbm, 252, rfl⟩
abbrev main_v240 : Ref sig .tc := ⟨.hbm, 253, rfl⟩
abbrev main_v241 : Ref sig .tc := ⟨.hbm, 254, rfl⟩
abbrev main_v242 : Ref sig .tc := ⟨.hbm, 255, rfl⟩
abbrev main_v243 : Ref sig .tc := ⟨.hbm, 256, rfl⟩
abbrev main_v244 : Ref sig .tc := ⟨.hbm, 257, rfl⟩
abbrev main_v245 : Ref sig .tc := ⟨.hbm, 258, rfl⟩
abbrev main_v246 : Ref sig .tc := ⟨.hbm, 259, rfl⟩
abbrev main_v247 : Ref sig .tc := ⟨.hbm, 260, rfl⟩
abbrev main_v248 : Ref sig .tc := ⟨.hbm, 261, rfl⟩
abbrev main_v249 : Ref sig .tc := ⟨.hbm, 262, rfl⟩
abbrev main_v250 : Ref sig .tc := ⟨.hbm, 263, rfl⟩
abbrev main_v251 : Ref sig .tc := ⟨.hbm, 264, rfl⟩
abbrev main_v252 : Ref sig .tc := ⟨.hbm, 265, rfl⟩
abbrev main_v253 : Ref sig .tc := ⟨.hbm, 266, rfl⟩
abbrev main_v254 : Ref sig .tc := ⟨.hbm, 267, rfl⟩
abbrev main_v255 : Ref sig .tc := ⟨.hbm, 268, rfl⟩
abbrev main_v256 : Ref sig .tc := ⟨.hbm, 269, rfl⟩
abbrev main_v257 : Ref sig .tc := ⟨.hbm, 270, rfl⟩
abbrev main_v258 : Ref sig .tc := ⟨.hbm, 271, rfl⟩
abbrev main_v259 : Ref sig .tc := ⟨.hbm, 272, rfl⟩
abbrev main_v260 : Ref sig .tc := ⟨.hbm, 273, rfl⟩
abbrev main_v261 : Ref sig .tc := ⟨.hbm, 274, rfl⟩
abbrev main_v262 : Ref sig .tc := ⟨.hbm, 275, rfl⟩
abbrev main_v263 : Ref sig .tc := ⟨.hbm, 276, rfl⟩
abbrev main_v264 : Ref sig .tc := ⟨.hbm, 277, rfl⟩
abbrev main_v265 : Ref sig .tc := ⟨.hbm, 278, rfl⟩
abbrev main_v266 : Ref sig .tc := ⟨.hbm, 279, rfl⟩
abbrev main_v267 : Ref sig .tc := ⟨.hbm, 280, rfl⟩
abbrev main_v268 : Ref sig .tc := ⟨.hbm, 281, rfl⟩
abbrev main_v269 : Ref sig .tc := ⟨.hbm, 282, rfl⟩
abbrev main_v270 : Ref sig .tc := ⟨.hbm, 283, rfl⟩
abbrev main_v271 : Ref sig .tc := ⟨.hbm, 284, rfl⟩
abbrev main_v272 : Ref sig .tc := ⟨.hbm, 285, rfl⟩
abbrev main_v273 : Ref sig .tc := ⟨.hbm, 286, rfl⟩
abbrev main_v274 : Ref sig .tc := ⟨.hbm, 287, rfl⟩
abbrev main_v275 : Ref sig .tc := ⟨.hbm, 288, rfl⟩
abbrev main_v276 : Ref sig .tc := ⟨.hbm, 289, rfl⟩
abbrev main_v277 : Ref sig .tc := ⟨.hbm, 290, rfl⟩
abbrev main_v278 : Ref sig .tc := ⟨.hbm, 291, rfl⟩
abbrev main_v279 : Ref sig .tc := ⟨.hbm, 292, rfl⟩
abbrev main_v280 : Ref sig .tc := ⟨.hbm, 293, rfl⟩
abbrev main_v281 : Ref sig .tc := ⟨.hbm, 294, rfl⟩
abbrev main_v282 : Ref sig .tc := ⟨.hbm, 295, rfl⟩
abbrev main_v283 : Ref sig .tc := ⟨.hbm, 296, rfl⟩
abbrev main_v284 : Ref sig .tc := ⟨.hbm, 297, rfl⟩
abbrev main_v285 : Ref sig .tc := ⟨.hbm, 298, rfl⟩
abbrev main_v286 : Ref sig .tc := ⟨.hbm, 299, rfl⟩
abbrev main_v287 : Ref sig .tc := ⟨.hbm, 300, rfl⟩
abbrev main_v288 : Ref sig .tc := ⟨.hbm, 301, rfl⟩
abbrev main_v289 : Ref sig .tc := ⟨.hbm, 302, rfl⟩
abbrev main_v290 : Ref sig .tc := ⟨.hbm, 303, rfl⟩
abbrev main_v291 : Ref sig .tc := ⟨.hbm, 304, rfl⟩
abbrev main_v292 : Ref sig .tc := ⟨.hbm, 305, rfl⟩
abbrev main_v293 : Ref sig .tc := ⟨.hbm, 306, rfl⟩
abbrev main_v294 : Ref sig .tc := ⟨.hbm, 307, rfl⟩
abbrev main_v295 : Ref sig .tc := ⟨.hbm, 308, rfl⟩
abbrev main_v296 : Ref sig .tc := ⟨.hbm, 309, rfl⟩
abbrev main_v297 : Ref sig .tc := ⟨.hbm, 310, rfl⟩
abbrev main_v298 : Ref sig .tc := ⟨.hbm, 311, rfl⟩
abbrev main_v299 : Ref sig .tc := ⟨.hbm, 312, rfl⟩
abbrev main_v300 : Ref sig .tc := ⟨.hbm, 313, rfl⟩
abbrev main_v301 : Ref sig .tc := ⟨.hbm, 314, rfl⟩
abbrev main_v302 : Ref sig .tc := ⟨.hbm, 315, rfl⟩
abbrev main_v303 : Ref sig .tc := ⟨.hbm, 316, rfl⟩
abbrev main_v304 : Ref sig .tc := ⟨.hbm, 317, rfl⟩
abbrev main_v305 : Ref sig .tc := ⟨.hbm, 318, rfl⟩
abbrev main_c_9 : Ref sig .tc := ⟨.hbm, 319, rfl⟩
abbrev main_call0_v0 : Ref sig .tc := ⟨.hbm, 320, rfl⟩
abbrev main_v306 : Ref sig .tc := ⟨.hbm, 321, rfl⟩
abbrev main_v307 : Ref sig .tc := ⟨.hbm, 322, rfl⟩
abbrev main_v308 : Ref sig .tc := ⟨.hbm, 323, rfl⟩
abbrev main_v309 : Ref sig .tc := ⟨.hbm, 324, rfl⟩
abbrev main_v310 : Ref sig .tc := ⟨.hbm, 325, rfl⟩
abbrev main_v311 : Ref sig .tc := ⟨.hbm, 326, rfl⟩
abbrev main_v312 : Ref sig .tc := ⟨.hbm, 327, rfl⟩
abbrev main_v313 : Ref sig .tc := ⟨.hbm, 328, rfl⟩
abbrev main_v314 : Ref sig .tc := ⟨.hbm, 329, rfl⟩
abbrev main_v315 : Ref sig .tc := ⟨.hbm, 330, rfl⟩
abbrev main_v316 : Ref sig .tc := ⟨.hbm, 331, rfl⟩
abbrev main_v317 : Ref sig .tc := ⟨.hbm, 332, rfl⟩
abbrev main_v318 : Ref sig .tc := ⟨.hbm, 333, rfl⟩
abbrev main_v319 : Ref sig .tc := ⟨.hbm, 334, rfl⟩
abbrev main_v320 : Ref sig .tc := ⟨.hbm, 335, rfl⟩
abbrev main_v321 : Ref sig .tc := ⟨.hbm, 336, rfl⟩
abbrev main_v322 : Ref sig .tc := ⟨.hbm, 337, rfl⟩
abbrev main_v323 : Ref sig .tc := ⟨.hbm, 338, rfl⟩
abbrev main_v324 : Ref sig .tc := ⟨.hbm, 339, rfl⟩
abbrev main_v325 : Ref sig .tc := ⟨.hbm, 340, rfl⟩
abbrev main_v326 : Ref sig .tc := ⟨.hbm, 341, rfl⟩
abbrev main_v327 : Ref sig .tc := ⟨.hbm, 342, rfl⟩
abbrev main_v328 : Ref sig .tc := ⟨.hbm, 343, rfl⟩
abbrev main_v329 : Ref sig .tc := ⟨.hbm, 344, rfl⟩
abbrev main_v330 : Ref sig .tc := ⟨.hbm, 345, rfl⟩
abbrev main_v331 : Ref sig .tc := ⟨.hbm, 346, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.minsi v0 c1_i32_0
  let c0_i32 : BitVec 32 := 0#32
  let c0_i32_1 : BitVec 32 := 0#32
  let c0_i32_2 : BitVec 32 := 0#32
  ![arg0.toNat, v1.toNat, c0_i32.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x65x128x9 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x65x128x9 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4x128x144 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S45x144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S12x144x144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x65x130x144 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S16x16x128x128x3x3 : Shape := ⟨6, ![16, 16, 128, 128, 3, 3]⟩
abbrev S16x16x8x3 : Shape := ⟨4, ![16, 16, 8, 3]⟩
abbrev S9 : Shape := ⟨1, ![9]⟩
abbrev S_ : Shape := ⟨0, ![]⟩
abbrev S9x1 : Shape := ⟨2, ![9, 1]⟩
abbrev S16x16x9x3 : Shape := ⟨4, ![16, 16, 9, 3]⟩
abbrev S16x16x9x1 : Shape := ⟨4, ![16, 16, 9, 1]⟩
abbrev S16x16x9 : Shape := ⟨3, ![16, 16, 9]⟩
abbrev S3x3 : Shape := ⟨2, ![3, 3]⟩
abbrev S16x16x9x1x3 : Shape := ⟨5, ![16, 16, 9, 1, 3]⟩
abbrev S16x16x9x3x3 : Shape := ⟨5, ![16, 16, 9, 3, 3]⟩
abbrev S1 : Shape := ⟨1, ![1]⟩
abbrev S16x16x3x3 : Shape := ⟨4, ![16, 16, 3, 3]⟩
abbrev S1x1x1x3x3 : Shape := ⟨5, ![1, 1, 1, 3, 3]⟩
abbrev S16x16x9x1x1 : Shape := ⟨5, ![16, 16, 9, 1, 1]⟩
abbrev S16x16x3x3x3x3 : Shape := ⟨6, ![16, 16, 3, 3, 3, 3]⟩
abbrev S16x16x130x130x3x3 : Shape := ⟨6, ![16, 16, 130, 130, 3, 3]⟩
abbrev S16x16x1x1x3x3 : Shape := ⟨6, ![16, 16, 1, 1, 3, 3]⟩
abbrev S16x16x128x128x3x16x3 : Shape := ⟨7, ![16, 16, 128, 128, 3, 16, 3]⟩
abbrev S2 : Shape := ⟨1, ![2]⟩
abbrev S16x1x128x128x3x3 : Shape := ⟨6, ![16, 1, 128, 128, 3, 3]⟩
abbrev S16x128x128x3x3 : Shape := ⟨5, ![16, 128, 128, 3, 3]⟩
abbrev S16x1x3x3x3x3 : Shape := ⟨6, ![16, 1, 3, 3, 3, 3]⟩
abbrev S16x3x3x3x3 : Shape := ⟨5, ![16, 3, 3, 3, 3]⟩
abbrev S16x130x130x3x3 : Shape := ⟨5, ![16, 130, 130, 3, 3]⟩
abbrev S16x1x1x3x3 : Shape := ⟨5, ![16, 1, 1, 3, 3]⟩
abbrev S16x3x3 : Shape := ⟨3, ![16, 3, 3]⟩
abbrev S16x128x128x3x16x3 : Shape := ⟨6, ![16, 128, 128, 3, 16, 3]⟩

abbrev nBuf : Space → Nat
  | .hbm => 311
  | .vmem => 0
  | .smem => 0
  | _ => 0

abbrev hbmTy0_0 (i : Nat) : BufTy := match i % 128 with
  | 0 => ⟨S16x16x128x128x3x3, .f32⟩
  | 1 => ⟨S16x16x8x3, .f32⟩
  | 2 => ⟨S9, .i32⟩
  | 3 => ⟨S_, .i32⟩
  | 4 => ⟨S9, .i32⟩
  | 5 => ⟨S9, .i1⟩
  | 6 => ⟨S_, .i32⟩
  | 7 => ⟨S9, .i32⟩
  | 8 => ⟨S9, .i32⟩
  | 9 => ⟨S_, .i32⟩
  | 10 => ⟨S9, .i32⟩
  | 11 => ⟨S9, .i1⟩
  | 12 => ⟨S_, .i32⟩
  | 13 => ⟨S9, .i32⟩
  | 14 => ⟨S9, .i32⟩
  | 15 => ⟨S9, .i32⟩
  | 16 => ⟨S9x1, .i32⟩
  | 17 => ⟨S16x16x9x3, .f32⟩
  | 18 => ⟨S16x16x9x1, .f32⟩
  | 19 => ⟨S16x16x9, .f32⟩
  | 20 => ⟨S16x16x9x1, .f32⟩
  | 21 => ⟨S16x16x9, .f32⟩
  | 22 => ⟨S16x16x9x1, .f32⟩
  | 23 => ⟨S16x16x9, .f32⟩
  | 24 => ⟨S3x3, .i32⟩
  | 25 => ⟨S3x3, .i32⟩
  | 26 => ⟨S_, .i32⟩
  | 27 => ⟨S3x3, .i32⟩
  | 28 => ⟨S3x3, .i32⟩
  | 29 => ⟨S3x3, .i1⟩
  | 30 => ⟨S3x3, .f32⟩
  | 31 => ⟨S_, .f32⟩
  | 32 => ⟨S16x16x9, .f32⟩
  | 33 => ⟨S16x16x9x1, .f32⟩
  | 34 => ⟨S16x16x9x1, .f32⟩
  | 35 => ⟨S16x16x9x1, .f32⟩
  | 36 => ⟨S16x16x9x3, .f32⟩
  | 37 => ⟨S16x16x9, .f32⟩
  | 38 => ⟨S16x16x9x1, .f32⟩
  | 39 => ⟨S16x16x9x1, .f32⟩
  | 40 => ⟨S16x16x9x1, .f32⟩
  | 41 => ⟨S16x16x9x3, .f32⟩
  | 42 => ⟨S16x16x9, .f32⟩
  | 43 => ⟨S16x16x9, .f32⟩
  | 44 => ⟨S16x16x9x1, .f32⟩
  | 45 => ⟨S16x16x9x1, .f32⟩
  | 46 => ⟨S16x16x9x1, .f32⟩
  | 47 => ⟨S16x16x9x3, .f32⟩
  | 48 => ⟨S16x16x9x1x3, .f32⟩
  | 49 => ⟨S16x16x9x1x3, .f32⟩
  | 50 => ⟨S16x16x9x1x3, .f32⟩
  | 51 => ⟨S16x16x9x3x3, .f32⟩
  | 52 => ⟨S_, .i32⟩
  | 53 => ⟨S1, .i32⟩
  | 54 => ⟨S16x16x3x3, .f32⟩
  | 55 => ⟨S16x16x9x3x3, .f32⟩
  | 56 => ⟨S1x1x1x3x3, .f32⟩
  | 57 => ⟨S16x16x9x3x3, .f32⟩
  | 58 => ⟨S16x16x9x3x3, .f32⟩
  | 59 => ⟨S_, .i32⟩
  | 60 => ⟨S1, .i32⟩
  | 61 => ⟨S16x16x3x3, .f32⟩
  | 62 => ⟨S16x16x9x3x3, .f32⟩
  | 63 => ⟨S16x16x9x1x1, .f32⟩
  | 64 => ⟨S16x16x9, .f32⟩
  | 65 => ⟨S16x16x9x1x1, .f32⟩
  | 66 => ⟨S16x16x9, .f32⟩
  | 67 => ⟨S16x16x9x1x1, .f32⟩
  | 68 => ⟨S16x16x9, .f32⟩
  | 69 => ⟨S16x16x9x1x1, .f32⟩
  | 70 => ⟨S16x16x9, .f32⟩
  | 71 => ⟨S16x16x9x1x1, .f32⟩
  | 72 => ⟨S16x16x9, .f32⟩
  | 73 => ⟨S16x16x9x1x1, .f32⟩
  | 74 => ⟨S16x16x9, .f32⟩
  | 75 => ⟨S16x16x9x1x1, .f32⟩
  | 76 => ⟨S16x16x9, .f32⟩
  | 77 => ⟨S16x16x9x1x1, .f32⟩
  | 78 => ⟨S16x16x9, .f32⟩
  | 79 => ⟨S16x16x9x1x1, .f32⟩
  | 80 => ⟨S16x16x9, .f32⟩
  | 81 => ⟨S16x16x9, .f32⟩
  | 82 => ⟨S16x16x9, .f32⟩
  | 83 => ⟨S16x16x9, .f32⟩
  | 84 => ⟨S16x16x9, .f32⟩
  | 85 => ⟨S16x16x9, .f32⟩
  | 86 => ⟨S16x16x9, .f32⟩
  | 87 => ⟨S16x16x9, .f32⟩
  | 88 => ⟨S16x16x9, .f32⟩
  | 89 => ⟨S16x16x9, .f32⟩
  | 90 => ⟨S16x16x9, .f32⟩
  | 91 => ⟨S16x16x9, .f32⟩
  | 92 => ⟨S16x16x9, .f32⟩
  | 93 => ⟨S16x16x9, .f32⟩
  | 94 => ⟨S16x16x9, .f32⟩
  | 95 => ⟨S16x16x9, .f32⟩
  | 96 => ⟨S16x16x9, .f32⟩
  | 97 => ⟨S16x16x9, .f32⟩
  | 98 => ⟨S16x16x9, .f32⟩
  | 99 => ⟨S16x16x9, .f32⟩
  | 100 => ⟨S16x16x9, .f32⟩
  | 101 => ⟨S16x16x9, .f32⟩
  | 102 => ⟨S16x16x9, .f32⟩
  | 103 => ⟨S16x16x9, .f32⟩
  | 104 => ⟨S16x16x9x1, .f32⟩
  | 105 => ⟨S16x16x9x1, .f32⟩
  | 106 => ⟨S16x16x9x1, .f32⟩
  | 107 => ⟨S16x16x9x3, .f32⟩
  | 108 => ⟨S16x16x9, .f32⟩
  | 109 => ⟨S16x16x9, .f32⟩
  | 110 => ⟨S16x16x9, .f32⟩
  | 111 => ⟨S16x16x9, .f32⟩
  | 112 => ⟨S16x16x9, .f32⟩
  | 113 => ⟨S16x16x9, .f32⟩
  | 114 => ⟨S16x16x9, .f32⟩
  | 115 => ⟨S16x16x9, .f32⟩
  | 116 => ⟨S16x16x9, .f32⟩
  | 117 => ⟨S16x16x9x1, .f32⟩
  | 118 => ⟨S16x16x9x1, .f32⟩
  | 119 => ⟨S16x16x9x1, .f32⟩
  | 120 => ⟨S16x16x9x3, .f32⟩
  | 121 => ⟨S16x16x9, .f32⟩
  | 122 => ⟨S16x16x9, .f32⟩
  | 123 => ⟨S16x16x9, .f32⟩
  | 124 => ⟨S16x16x9, .f32⟩
  | 125 => ⟨S16x16x9, .f32⟩
  | 126 => ⟨S16x16x9, .f32⟩
  | 127 => ⟨S16x16x9, .f32⟩
  | _ => ⟨S16x16x128x128x3x3, .f32⟩

abbrev hbmTy0_1 (i : Nat) : BufTy := match i % 128 with
  | 0 => ⟨S16x16x9, .f32⟩
  | 1 => ⟨S16x16x9, .f32⟩
  | 2 => ⟨S16x16x9x1, .f32⟩
  | 3 => ⟨S16x16x9x1, .f32⟩
  | 4 => ⟨S16x16x9x1, .f32⟩
  | 5 => ⟨S16x16x9x3, .f32⟩
  | 6 => ⟨S16x16x9x1x3, .f32⟩
  | 7 => ⟨S16x16x9x1x3, .f32⟩
  | 8 => ⟨S16x16x9x1x3, .f32⟩
  | 9 => ⟨S16x16x9x3x3, .f32⟩
  | 10 => ⟨S_, .f32⟩
  | 11 => ⟨S16x16x9, .f32⟩
  | 12 => ⟨S16x16x9, .f32⟩
  | 13 => ⟨S16x16x9x1x1, .f32⟩
  | 14 => ⟨S16x16x9x3x3, .f32⟩
  | 15 => ⟨S16x16x9x3x3, .f32⟩
  | 16 => ⟨S1x1x1x3x3, .f32⟩
  | 17 => ⟨S16x16x9x3x3, .f32⟩
  | 18 => ⟨S16x16x9x3x3, .f32⟩
  | 19 => ⟨S16x16x9x3x3, .f32⟩
  | 20 => ⟨S16x16x3x3x3x3, .f32⟩
  | 21 => ⟨S_, .f32⟩
  | 22 => ⟨S16x16x130x130x3x3, .f32⟩
  | 23 => ⟨S16x16x1x1x3x3, .f32⟩
  | 24 => ⟨S16x16x3x3, .f32⟩
  | 25 => ⟨S16x16x128x128x3x16x3, .f32⟩
  | 26 => ⟨S16x16x128x128x3x16x3, .f32⟩
  | 27 => ⟨S16x16x128x128x3x3, .f32⟩
  | 28 => ⟨S16x16x128x128x3x3, .f32⟩
  | 29 => ⟨S_, .i32⟩
  | 30 => ⟨S1, .i32⟩
  | 31 => ⟨S_, .i32⟩
  | 32 => ⟨S1, .i32⟩
  | 33 => ⟨S2, .i32⟩
  | 34 => ⟨S16x16x130x130x3x3, .f32⟩
  | 35 => ⟨S16x16x1x1x3x3, .f32⟩
  | 36 => ⟨S16x16x3x3, .f32⟩
  | 37 => ⟨S16x16x128x128x3x16x3, .f32⟩
  | 38 => ⟨S16x16x128x128x3x16x3, .f32⟩
  | 39 => ⟨S16x16x128x128x3x3, .f32⟩
  | 40 => ⟨S16x16x128x128x3x3, .f32⟩
  | 41 => ⟨S_, .i32⟩
  | 42 => ⟨S1, .i32⟩
  | 43 => ⟨S_, .i32⟩
  | 44 => ⟨S1, .i32⟩
  | 45 => ⟨S2, .i32⟩
  | 46 => ⟨S16x16x130x130x3x3, .f32⟩
  | 47 => ⟨S16x16x1x1x3x3, .f32⟩
  | 48 => ⟨S16x16x3x3, .f32⟩
  | 49 => ⟨S16x16x128x128x3x16x3, .f32⟩
  | 50 => ⟨S16x16x128x128x3x16x3, .f32⟩
  | 51 => ⟨S16x16x128x128x3x3, .f32⟩
  | 52 => ⟨S16x16x128x128x3x3, .f32⟩
  | 53 => ⟨S_, .i32⟩
  | 54 => ⟨S1, .i32⟩
  | 55 => ⟨S_, .i32⟩
  | 56 => ⟨S1, .i32⟩
  | 57 => ⟨S2, .i32⟩
  | 58 => ⟨S16x16x130x130x3x3, .f32⟩
  | 59 => ⟨S16x16x1x1x3x3, .f32⟩
  | 60 => ⟨S16x16x3x3, .f32⟩
  | 61 => ⟨S16x16x128x128x3x16x3, .f32⟩
  | 62 => ⟨S16x16x128x128x3x16x3, .f32⟩
  | 63 => ⟨S16x16x128x128x3x3, .f32⟩
  | 64 => ⟨S16x16x128x128x3x3, .f32⟩
  | 65 => ⟨S_, .i32⟩
  | 66 => ⟨S1, .i32⟩
  | 67 => ⟨S_, .i32⟩
  | 68 => ⟨S1, .i32⟩
  | 69 => ⟨S2, .i32⟩
  | 70 => ⟨S16x16x130x130x3x3, .f32⟩
  | 71 => ⟨S16x16x1x1x3x3, .f32⟩
  | 72 => ⟨S16x16x3x3, .f32⟩
  | 73 => ⟨S16x16x128x128x3x16x3, .f32⟩
  | 74 => ⟨S16x16x128x128x3x16x3, .f32⟩
  | 75 => ⟨S16x16x128x128x3x3, .f32⟩
  | 76 => ⟨S16x16x128x128x3x3, .f32⟩
  | 77 => ⟨S_, .i32⟩
  | 78 => ⟨S1, .i32⟩
  | 79 => ⟨S_, .i32⟩
  | 80 => ⟨S1, .i32⟩
  | 81 => ⟨S2, .i32⟩
  | 82 => ⟨S16x16x130x130x3x3, .f32⟩
  | 83 => ⟨S16x16x1x1x3x3, .f32⟩
  | 84 => ⟨S16x16x3x3, .f32⟩
  | 85 => ⟨S16x16x128x128x3x16x3, .f32⟩
  | 86 => ⟨S16x16x128x128x3x16x3, .f32⟩
  | 87 => ⟨S16x16x128x128x3x3, .f32⟩
  | 88 => ⟨S16x16x128x128x3x3, .f32⟩
  | 89 => ⟨S_, .i32⟩
  | 90 => ⟨S1, .i32⟩
  | 91 => ⟨S_, .i32⟩
  | 92 => ⟨S1, .i32⟩
  | 93 => ⟨S2, .i32⟩
  | 94 => ⟨S16x16x130x130x3x3, .f32⟩
  | 95 => ⟨S16x16x1x1x3x3, .f32⟩
  | 96 => ⟨S16x16x3x3, .f32⟩
  | 97 => ⟨S16x16x128x128x3x16x3, .f32⟩
  | 98 => ⟨S16x16x128x128x3x16x3, .f32⟩
  | 99 => ⟨S16x16x128x128x3x3, .f32⟩
  | 100 => ⟨S16x16x128x128x3x3, .f32⟩
  | 101 => ⟨S_, .i32⟩
  | 102 => ⟨S1, .i32⟩
  | 103 => ⟨S_, .i32⟩
  | 104 => ⟨S1, .i32⟩
  | 105 => ⟨S2, .i32⟩
  | 106 => ⟨S16x16x130x130x3x3, .f32⟩
  | 107 => ⟨S16x16x1x1x3x3, .f32⟩
  | 108 => ⟨S16x16x3x3, .f32⟩
  | 109 => ⟨S16x16x128x128x3x16x3, .f32⟩
  | 110 => ⟨S16x16x128x128x3x16x3, .f32⟩
  | 111 => ⟨S16x16x128x128x3x3, .f32⟩
  | 112 => ⟨S16x16x128x128x3x3, .f32⟩
  | 113 => ⟨S_, .i32⟩
  | 114 => ⟨S1, .i32⟩
  | 115 => ⟨S_, .i32⟩
  | 116 => ⟨S1, .i32⟩
  | 117 => ⟨S2, .i32⟩
  | 118 => ⟨S16x16x130x130x3x3, .f32⟩
  | 119 => ⟨S16x16x1x1x3x3, .f32⟩
  | 120 => ⟨S16x16x3x3, .f32⟩
  | 121 => ⟨S16x16x128x128x3x16x3, .f32⟩
  | 122 => ⟨S16x16x128x128x3x16x3, .f32⟩
  | 123 => ⟨S16x16x128x128x3x3, .f32⟩
  | 124 => ⟨S16x16x128x128x3x3, .f32⟩
  | 125 => ⟨S_, .i32⟩
  | 126 => ⟨S1, .i32⟩
  | 127 => ⟨S_, .i32⟩
  | _ => ⟨S16x16x128x128x3x3, .f32⟩

abbrev hbmTy0_2 (i : Nat) : BufTy := match i % 128 with
  | 0 => ⟨S1, .i32⟩
  | 1 => ⟨S2, .i32⟩
  | 2 => ⟨S16x16x130x130x3x3, .f32⟩
  | 3 => ⟨S16x1x128x128x3x3, .f32⟩
  | 4 => ⟨S16x128x128x3x3, .f32⟩
  | 5 => ⟨S16x1x3x3x3x3, .f32⟩
  | 6 => ⟨S16x3x3x3x3, .f32⟩
  | 7 => ⟨S16x1x128x128x3x3, .f32⟩
  | 8 => ⟨S_, .i32⟩
  | 9 => ⟨S_, .f32⟩
  | 10 => ⟨S16x130x130x3x3, .f32⟩
  | 11 => ⟨S16x128x128x3x3, .f32⟩
  | 12 => ⟨S16x1x1x3x3, .f32⟩
  | 13 => ⟨S16x3x3, .f32⟩
  | 14 => ⟨S16x128x128x3x16x3, .f32⟩
  | 15 => ⟨S16x16x128x128x3x3, .f32⟩
  | 16 => ⟨S16x16x128x128x3x3, .f32⟩
  | 17 => ⟨S16x16x128x128x3x3, .f32⟩
  | 18 => ⟨S16x16x128x128x3x3, .f32⟩
  | 19 => ⟨S_, .i32⟩
  | 20 => ⟨S_, .f32⟩
  | 21 => ⟨S16x130x130x3x3, .f32⟩
  | 22 => ⟨S16x128x128x3x3, .f32⟩
  | 23 => ⟨S16x1x1x3x3, .f32⟩
  | 24 => ⟨S16x3x3, .f32⟩
  | 25 => ⟨S16x128x128x3x16x3, .f32⟩
  | 26 => ⟨S16x16x128x128x3x3, .f32⟩
  | 27 => ⟨S16x16x128x128x3x3, .f32⟩
  | 28 => ⟨S16x16x128x128x3x3, .f32⟩
  | 29 => ⟨S_, .i32⟩
  | 30 => ⟨S_, .f32⟩
  | 31 => ⟨S16x130x130x3x3, .f32⟩
  | 32 => ⟨S16x128x128x3x3, .f32⟩
  | 33 => ⟨S16x1x1x3x3, .f32⟩
  | 34 => ⟨S16x3x3, .f32⟩
  | 35 => ⟨S16x128x128x3x16x3, .f32⟩
  | 36 => ⟨S16x16x128x128x3x3, .f32⟩
  | 37 => ⟨S16x16x128x128x3x3, .f32⟩
  | 38 => ⟨S16x16x128x128x3x3, .f32⟩
  | 39 => ⟨S_, .i32⟩
  | 40 => ⟨S_, .f32⟩
  | 41 => ⟨S16x130x130x3x3, .f32⟩
  | 42 => ⟨S16x128x128x3x3, .f32⟩
  | 43 => ⟨S16x1x1x3x3, .f32⟩
  | 44 => ⟨S16x3x3, .f32⟩
  | 45 => ⟨S16x128x128x3x16x3, .f32⟩
  | 46 => ⟨S16x16x128x128x3x3, .f32⟩
  | 47 => ⟨S16x16x128x128x3x3, .f32⟩
  | 48 => ⟨S16x16x128x128x3x3, .f32⟩
  | 49 => ⟨S_, .i32⟩
  | 50 => ⟨S1, .i32⟩
  | 51 => ⟨S_, .i32⟩
  | 52 => ⟨S1, .i32⟩
  | 53 => ⟨S2, .i32⟩
  | 54 => ⟨S16x16x130x130x3x3, .f32⟩
  | _ => ⟨S16x16x128x128x3x3, .f32⟩

abbrev hbmTy (i : Nat) : BufTy := match i / 128 with
  | 0 => hbmTy0_0 i
  | 1 => hbmTy0_1 i
  | 2 => hbmTy0_2 i
  | _ => ⟨S16x16x128x128x3x3, .f32⟩

abbrev bufTy : (tb : Table) → Fin (tcTables nBuf tb) → BufTy
  | .hbm, ⟨i, _⟩ => hbmTy i
  | _, _ => ⟨S16x16x128x128x3x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_c_1 : Ref sig .tc := ⟨.hbm, 9, rfl⟩
abbrev main_v5 : Ref sig .tc := ⟨.hbm, 10, rfl⟩
abbrev main_v6 : Ref sig .tc := ⟨.hbm, 11, rfl⟩
abbrev main_c_2 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_c_3 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_c_4 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_c_5 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_v116 : Ref sig .tc := ⟨.hbm, 126, rfl⟩
abbrev main_v117 : Ref sig .tc := ⟨.hbm, 127, rfl⟩
abbrev main_v118 : Ref sig .tc := ⟨.hbm, 128, rfl⟩
abbrev main_v119 : Ref sig .tc := ⟨.hbm, 129, rfl⟩
abbrev main_v120 : Ref sig .tc := ⟨.hbm, 130, rfl⟩
abbrev main_v121 : Ref sig .tc := ⟨.hbm, 131, rfl⟩
abbrev main_v122 : Ref sig .tc := ⟨.hbm, 132, rfl⟩
abbrev main_v123 : Ref sig .tc := ⟨.hbm, 133, rfl⟩
abbrev main_v124 : Ref sig .tc := ⟨.hbm, 134, rfl⟩
abbrev main_v125 : Ref sig .tc := ⟨.hbm, 135, rfl⟩
abbrev main_v126 : Ref sig .tc := ⟨.hbm, 136, rfl⟩
abbrev main_v127 : Ref sig .tc := ⟨.hbm, 137, rfl⟩
abbrev main_cst_6 : Ref sig .tc := ⟨.hbm, 138, rfl⟩
abbrev main_v128 : Ref sig .tc := ⟨.hbm, 139, rfl⟩
abbrev main_v129 : Ref sig .tc := ⟨.hbm, 140, rfl⟩
abbrev main_v130 : Ref sig .tc := ⟨.hbm, 141, rfl⟩
abbrev main_v131 : Ref sig .tc := ⟨.hbm, 142, rfl⟩
abbrev main_v132 : Ref sig .tc := ⟨.hbm, 143, rfl⟩
abbrev main_v133 : Ref sig .tc := ⟨.hbm, 144, rfl⟩
abbrev main_v134 : Ref sig .tc := ⟨.hbm, 145, rfl⟩
abbrev main_v135 : Ref sig .tc := ⟨.hbm, 146, rfl⟩
abbrev main_v136 : Ref sig .tc := ⟨.hbm, 147, rfl⟩
abbrev main_v137 : Ref sig .tc := ⟨.hbm, 148, rfl⟩
abbrev main_cst_7 : Ref sig .tc := ⟨.hbm, 149, rfl⟩
abbrev main_v138 : Ref sig .tc := ⟨.hbm, 150, rfl⟩
abbrev main_v139 : Ref sig .tc := ⟨.hbm, 151, rfl⟩
abbrev main_v140 : Ref sig .tc := ⟨.hbm, 152, rfl⟩
abbrev main_v141 : Ref sig .tc := ⟨.hbm, 153, rfl⟩
abbrev main_v142 : Ref sig .tc := ⟨.hbm, 154, rfl⟩
abbrev main_v143 : Ref sig .tc := ⟨.hbm, 155, rfl⟩
abbrev main_v144 : Ref sig .tc := ⟨.hbm, 156, rfl⟩
abbrev main_c_8 : Ref sig .tc := ⟨.hbm, 157, rfl⟩
abbrev main_v145 : Ref sig .tc := ⟨.hbm, 158, rfl⟩
abbrev main_c_9 : Ref sig .tc := ⟨.hbm, 159, rfl⟩
abbrev main_v146 : Ref sig .tc := ⟨.hbm, 160, rfl⟩
abbrev main_v147 : Ref sig .tc := ⟨.hbm, 161, rfl⟩
abbrev main_v148 : Ref sig .tc := ⟨.hbm, 162, rfl⟩
abbrev main_v149 : Ref sig .tc := ⟨.hbm, 163, rfl⟩
abbrev main_v150 : Ref sig .tc := ⟨.hbm, 164, rfl⟩
abbrev main_v151 : Ref sig .tc := ⟨.hbm, 165, rfl⟩
abbrev main_v152 : Ref sig .tc := ⟨.hbm, 166, rfl⟩
abbrev main_v153 : Ref sig .tc := ⟨.hbm, 167, rfl⟩
abbrev main_v154 : Ref sig .tc := ⟨.hbm, 168, rfl⟩
abbrev main_c_10 : Ref sig .tc := ⟨.hbm, 169, rfl⟩
abbrev main_v155 : Ref sig .tc := ⟨.hbm, 170, rfl⟩
abbrev main_c_11 : Ref sig .tc := ⟨.hbm, 171, rfl⟩
abbrev main_v156 : Ref sig .tc := ⟨.hbm, 172, rfl⟩
abbrev main_v157 : Ref sig .tc := ⟨.hbm, 173, rfl⟩
abbrev main_v158 : Ref sig .tc := ⟨.hbm, 174, rfl⟩
abbrev main_v159 : Ref sig .tc := ⟨.hbm, 175, rfl⟩
abbrev main_v160 : Ref sig .tc := ⟨.hbm, 176, rfl⟩
abbrev main_v161 : Ref sig .tc := ⟨.hbm, 177, rfl⟩
abbrev main_v162 : Ref sig .tc := ⟨.hbm, 178, rfl⟩
abbrev main_v163 : Ref sig .tc := ⟨.hbm, 179, rfl⟩
abbrev main_v164 : Ref sig .tc := ⟨.hbm, 180, rfl⟩
abbrev main_c_12 : Ref sig .tc := ⟨.hbm, 181, rfl⟩
abbrev main_v165 : Ref sig .tc := ⟨.hbm, 182, rfl⟩
abbrev main_c_13 : Ref sig .tc := ⟨.hbm, 183, rfl⟩
abbrev main_v166 : Ref sig .tc := ⟨.hbm, 184, rfl⟩
abbrev main_v167 : Ref sig .tc := ⟨.hbm, 185, rfl⟩
abbrev main_v168 : Ref sig .tc := ⟨.hbm, 186, rfl⟩
abbrev main_v169 : Ref sig .tc := ⟨.hbm, 187, rfl⟩
abbrev main_v170 : Ref sig .tc := ⟨.hbm, 188, rfl⟩
abbrev main_v171 : Ref sig .tc := ⟨.hbm, 189, rfl⟩
abbrev main_v172 : Ref sig .tc := ⟨.hbm, 190, rfl⟩
abbrev main_v173 : Ref sig .tc := ⟨.hbm, 191, rfl⟩
abbrev main_v174 : Ref sig .tc := ⟨.hbm, 192, rfl⟩
abbrev main_c_14 : Ref sig .tc := ⟨.hbm, 193, rfl⟩
abbrev main_v175 : Ref sig .tc := ⟨.hbm, 194, rfl⟩
abbrev main_c_15 : Ref sig .tc := ⟨.hbm, 195, rfl⟩
abbrev main_v176 : Ref sig .tc := ⟨.hbm, 196, rfl⟩
abbrev main_v177 : Ref sig .tc := ⟨.hbm, 197, rfl⟩
abbrev main_v178 : Ref sig .tc := ⟨.hbm, 198, rfl⟩
abbrev main_v179 : Ref sig .tc := ⟨.hbm, 199, rfl⟩
abbrev main_v180 : Ref sig .tc := ⟨.hbm, 200, rfl⟩
abbrev main_v181 : Ref sig .tc := ⟨.hbm, 201, rfl⟩
abbrev main_v182 : Ref sig .tc := ⟨.hbm, 202, rfl⟩
abbrev main_v183 : Ref sig .tc := ⟨.hbm, 203, rfl⟩
abbrev main_v184 : Ref sig .tc := ⟨.hbm, 204, rfl⟩
abbrev main_c_16 : Ref sig .tc := ⟨.hbm, 205, rfl⟩
abbrev main_v185 : Ref sig .tc := ⟨.hbm, 206, rfl⟩
abbrev main_c_17 : Ref sig .tc := ⟨.hbm, 207, rfl⟩
abbrev main_v186 : Ref sig .tc := ⟨.hbm, 208, rfl⟩
abbrev main_v187 : Ref sig .tc := ⟨.hbm, 209, rfl⟩
abbrev main_v188 : Ref sig .tc := ⟨.hbm, 210, rfl⟩
abbrev main_v189 : Ref sig .tc := ⟨.hbm, 211, rfl⟩
abbrev main_v190 : Ref sig .tc := ⟨.hbm, 212, rfl⟩
abbrev main_v191 : Ref sig .tc := ⟨.hbm, 213, rfl⟩
abbrev main_v192 : Ref sig .tc := ⟨.hbm, 214, rfl⟩
abbrev main_v193 : Ref sig .tc := ⟨.hbm, 215, rfl⟩
abbrev main_v194 : Ref sig .tc := ⟨.hbm, 216, rfl⟩
abbrev main_c_18 : Ref sig .tc := ⟨.hbm, 217, rfl⟩
abbrev main_v195 : Ref sig .tc := ⟨.hbm, 218, rfl⟩
abbrev main_c_19 : Ref sig .tc := ⟨.hbm, 219, rfl⟩
abbrev main_v196 : Ref sig .tc := ⟨.hbm, 220, rfl⟩
abbrev main_v197 : Ref sig .tc := ⟨.hbm, 221, rfl⟩
abbrev main_v198 : Ref sig .tc := ⟨.hbm, 222, rfl⟩
abbrev main_v199 : Ref sig .tc := ⟨.hbm, 223, rfl⟩
abbrev main_v200 : Ref sig .tc := ⟨.hbm, 224, rfl⟩
abbrev main_v201 : Ref sig .tc := ⟨.hbm, 225, rfl⟩
abbrev main_v202 : Ref sig .tc := ⟨.hbm, 226, rfl⟩
abbrev main_v203 : Ref sig .tc := ⟨.hbm, 227, rfl⟩
abbrev main_v204 : Ref sig .tc := ⟨.hbm, 228, rfl⟩
abbrev main_c_20 : Ref sig .tc := ⟨.hbm, 229, rfl⟩
abbrev main_v205 : Ref sig .tc := ⟨.hbm, 230, rfl⟩
abbrev main_c_21 : Ref sig .tc := ⟨.hbm, 231, rfl⟩
abbrev main_v206 : Ref sig .tc := ⟨.hbm, 232, rfl⟩
abbrev main_v207 : Ref sig .tc := ⟨.hbm, 233, rfl⟩
abbrev main_v208 : Ref sig .tc := ⟨.hbm, 234, rfl⟩
abbrev main_v209 : Ref sig .tc := ⟨.hbm, 235, rfl⟩
abbrev main_v210 : Ref sig .tc := ⟨.hbm, 236, rfl⟩
abbrev main_v211 : Ref sig .tc := ⟨.hbm, 237, rfl⟩
abbrev main_v212 : Ref sig .tc := ⟨.hbm, 238, rfl⟩
abbrev main_v213 : Ref sig .tc := ⟨.hbm, 239, rfl⟩
abbrev main_v214 : Ref sig .tc := ⟨.hbm, 240, rfl⟩
abbrev main_c_22 : Ref sig .tc := ⟨.hbm, 241, rfl⟩
abbrev main_v215 : Ref sig .tc := ⟨.hbm, 242, rfl⟩
abbrev main_c_23 : Ref sig .tc := ⟨.hbm, 243, rfl⟩
abbrev main_v216 : Ref sig .tc := ⟨.hbm, 244, rfl⟩
abbrev main_v217 : Ref sig .tc := ⟨.hbm, 245, rfl⟩
abbrev main_v218 : Ref sig .tc := ⟨.hbm, 246, rfl⟩
abbrev main_v219 : Ref sig .tc := ⟨.hbm, 247, rfl⟩
abbrev main_v220 : Ref sig .tc := ⟨.hbm, 248, rfl⟩
abbrev main_v221 : Ref sig .tc := ⟨.hbm, 249, rfl⟩
abbrev main_v222 : Ref sig .tc := ⟨.hbm, 250, rfl⟩
abbrev main_v223 : Ref sig .tc := ⟨.hbm, 251, rfl⟩
abbrev main_v224 : Ref sig .tc := ⟨.hbm, 252, rfl⟩
abbrev main_c_24 : Ref sig .tc := ⟨.hbm, 253, rfl⟩
abbrev main_v225 : Ref sig .tc := ⟨.hbm, 254, rfl⟩
abbrev main_c_25 : Ref sig .tc := ⟨.hbm, 255, rfl⟩
abbrev main_v226 : Ref sig .tc := ⟨.hbm, 256, rfl⟩
abbrev main_v227 : Ref sig .tc := ⟨.hbm, 257, rfl⟩
abbrev main_v228 : Ref sig .tc := ⟨.hbm, 258, rfl⟩
abbrev main_v229 : Ref sig .tc := ⟨.hbm, 259, rfl⟩
abbrev main_v230 : Ref sig .tc := ⟨.hbm, 260, rfl⟩
abbrev main_v231 : Ref sig .tc := ⟨.hbm, 261, rfl⟩
abbrev main_v232 : Ref sig .tc := ⟨.hbm, 262, rfl⟩
abbrev main_v233 : Ref sig .tc := ⟨.hbm, 263, rfl⟩
abbrev main_c_26 : Ref sig .tc := ⟨.hbm, 264, rfl⟩
abbrev main_call1_v0 : Ref sig .tc := ⟨.hbm, 265, rfl⟩
abbrev main_v234 : Ref sig .tc := ⟨.hbm, 266, rfl⟩
abbrev main_v235 : Ref sig .tc := ⟨.hbm, 267, rfl⟩
abbrev main_v236 : Ref sig .tc := ⟨.hbm, 268, rfl⟩
abbrev main_v237 : Ref sig .tc := ⟨.hbm, 269, rfl⟩
abbrev main_v238 : Ref sig .tc := ⟨.hbm, 270, rfl⟩
abbrev main_v239 : Ref sig .tc := ⟨.hbm, 271, rfl⟩
abbrev main_v240 : Ref sig .tc := ⟨.hbm, 272, rfl⟩
abbrev main_v241 : Ref sig .tc := ⟨.hbm, 273, rfl⟩
abbrev main_v242 : Ref sig .tc := ⟨.hbm, 274, rfl⟩
abbrev main_c_27 : Ref sig .tc := ⟨.hbm, 275, rfl⟩
abbrev main_call2_v0 : Ref sig .tc := ⟨.hbm, 276, rfl⟩
abbrev main_v243 : Ref sig .tc := ⟨.hbm, 277, rfl⟩
abbrev main_v244 : Ref sig .tc := ⟨.hbm, 278, rfl⟩
abbrev main_v245 : Ref sig .tc := ⟨.hbm, 279, rfl⟩
abbrev main_v246 : Ref sig .tc := ⟨.hbm, 280, rfl⟩
abbrev main_v247 : Ref sig .tc := ⟨.hbm, 281, rfl⟩
abbrev main_v248 : Ref sig .tc := ⟨.hbm, 282, rfl⟩
abbrev main_v249 : Ref sig .tc := ⟨.hbm, 283, rfl⟩
abbrev main_v250 : Ref sig .tc := ⟨.hbm, 284, rfl⟩
abbrev main_c_28 : Ref sig .tc := ⟨.hbm, 285, rfl⟩
abbrev main_call3_v0 : Ref sig .tc := ⟨.hbm, 286, rfl⟩
abbrev main_v251 : Ref sig .tc := ⟨.hbm, 287, rfl⟩
abbrev main_v252 : Ref sig .tc := ⟨.hbm, 288, rfl⟩
abbrev main_v253 : Ref sig .tc := ⟨.hbm, 289, rfl⟩
abbrev main_v254 : Ref sig .tc := ⟨.hbm, 290, rfl⟩
abbrev main_v255 : Ref sig .tc := ⟨.hbm, 291, rfl⟩
abbrev main_v256 : Ref sig .tc := ⟨.hbm, 292, rfl⟩
abbrev main_v257 : Ref sig .tc := ⟨.hbm, 293, rfl⟩
abbrev main_v258 : Ref sig .tc := ⟨.hbm, 294, rfl⟩
abbrev main_c_29 : Ref sig .tc := ⟨.hbm, 295, rfl⟩
abbrev main_call4_v0 : Ref sig .tc := ⟨.hbm, 296, rfl⟩
abbrev main_v259 : Ref sig .tc := ⟨.hbm, 297, rfl⟩
abbrev main_v260 : Ref sig .tc := ⟨.hbm, 298, rfl⟩
abbrev main_v261 : Ref sig .tc := ⟨.hbm, 299, rfl⟩
abbrev main_v262 : Ref sig .tc := ⟨.hbm, 300, rfl⟩
abbrev main_v263 : Ref sig .tc := ⟨.hbm, 301, rfl⟩
abbrev main_v264 : Ref sig .tc := ⟨.hbm, 302, rfl⟩
abbrev main_v265 : Ref sig .tc := ⟨.hbm, 303, rfl⟩
abbrev main_v266 : Ref sig .tc := ⟨.hbm, 304, rfl⟩
abbrev main_c_30 : Ref sig .tc := ⟨.hbm, 305, rfl⟩
abbrev main_v267 : Ref sig .tc := ⟨.hbm, 306, rfl⟩
abbrev main_c_31 : Ref sig .tc := ⟨.hbm, 307, rfl⟩
abbrev main_v268 : Ref sig .tc := ⟨.hbm, 308, rfl⟩
abbrev main_v269 : Ref sig .tc := ⟨.hbm, 309, rfl⟩
abbrev main_v270 : Ref sig .tc := ⟨.hbm, 310, rfl⟩

abbrev nD : Nat := 1
abbrev τ : Topo := Topo.v7x

variable {F : FTy → Type} [FloatOps F]
-- ==== Proof.Reals.lean ====
/- Extended reals that are real numbers, and the one law of sums the proof needs: a product may be distributed over a
   sum of real numbers. Nothing here names a program. -/
module

public import Idealize.ShloMosaic.PureOps.Ideal

@[expose] public section

namespace Cert.Cayley

open Idealize.ShloMosaic

/-- An extended real that is a real number. -/
def IsReal (x : EReal) : Prop := ∃ r : ℝ, x = (r : EReal)

theorem isReal_coe (r : ℝ) : IsReal (r : EReal) := ⟨r, rfl⟩

theorem isReal_zero : IsReal 0 := ⟨0, rfl⟩

theorem isReal_one : IsReal 1 := ⟨1, rfl⟩

theorem IsReal.add {x y : EReal} (hx : IsReal x) (hy : IsReal y) : IsReal (x + y) := by
  obtain ⟨a, rfl⟩ := hx; obtain ⟨b, rfl⟩ := hy
  exact ⟨a + b, (EReal.coe_add a b).symm⟩

theorem IsReal.mul {x y : EReal} (hx : IsReal x) (hy : IsReal y) : IsReal (x * y) := by
  obtain ⟨a, rfl⟩ := hx; obtain ⟨b, rfl⟩ := hy
  exact ⟨a * b, (EReal.coe_mul a b).symm⟩

theorem IsReal.neg {x : EReal} (hx : IsReal x) : IsReal (-x) := by
  obtain ⟨a, rfl⟩ := hx
  exact ⟨-a, (EReal.coe_neg a).symm⟩

theorem IsReal.sub {x y : EReal} (hx : IsReal x) (hy : IsReal y) : IsReal (x - y) := by
  obtain ⟨a, rfl⟩ := hx; obtain ⟨b, rfl⟩ := hy
  exact ⟨a - b, (EReal.coe_sub a b).symm⟩

theorem isReal_iff {x : EReal} : IsReal x ↔ x ≠ ⊤ ∧ x ≠ ⊥ := by
  constructor
  · rintro ⟨r, rfl⟩
    exact ⟨EReal.coe_ne_top r, EReal.coe_ne_bot r⟩
  · rintro ⟨h, h'⟩
    exact ⟨x.toReal, (EReal.coe_toReal h h').symm⟩

theorem isReal_sum {ι : Type} (s : Finset ι) (f : ι → EReal) (h : ∀ i, IsReal (f i)) : IsReal (∑ i ∈ s, f i) := by
  classical
  induction s using Finset.induction_on with
  | empty => simpa using isReal_zero
  | insert a s ha ih => rw [Finset.sum_insert ha]; exact (h a).add ih

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- One weight matrix applied on both sides: with every entry a real number, the sum of `x_qs · (a_q · b_s)` is the sum
    over `s` of `(Σ_q x_qs · a_q) · b_s`. -/
theorem two_sided (x : Fin 3 → Fin 3 → EReal) (a b : Fin 3 → EReal) (hx : ∀ q s, IsReal (x q s)) (ha : ∀ q, IsReal (a q))
    (hb : ∀ s, IsReal (b s)) :
    ∑ q, ∑ s, x q s * (a q * b s) = ∑ s, (∑ q, x q s * a q) * b s := by
  choose xr hx using hx
  choose ar ha using ha
  choose br hb using hb
  simp only [hx, ha, hb, ← EReal.coe_mul, ← coe_sum]
  congr 1
  rw [Finset.sum_comm]
  refine Finset.sum_congr rfl fun s _ => ?_
  rw [Finset.sum_mul]
  exact Finset.sum_congr rfl fun q _ => (mul_assoc _ _ _).symm

end Cert.Cayley
-- ==== Proof.Values.lean ====
/- What both programs compute, in plain formulas over the image `x` and the Cayley matrices `G`, free of layouts. -/
module

public import Idealize.ShloMosaic.PureOps.Ideal

@[expose] public section

noncomputable section

namespace Cert.Cayley

/-- An image: sample, channel, row, column, and a 3×3 matrix at each of them. -/
abbrev Img := Fin 16 → Fin 16 → Fin 128 → Fin 128 → Fin 3 → Fin 3 → EReal

/-- The Cayley matrices: channel out, channel in, tap row, tap column, and a 3×3 matrix for each of them. -/
abbrev Mats := Fin 16 → Fin 16 → Fin 3 → Fin 3 → Fin 3 → Fin 3 → EReal

/-- `M y Mᵀ` at `(p, t)`. -/
def conj (M y : Fin 3 → Fin 3 → EReal) (p t : Fin 3) : EReal := ∑ s, (∑ q, y q s * M p q) * M t s

/-- The product of tap `(a, c)` at pixel `(r, w)`: `∑ G x Gᵀ` over the channels. -/
def tap (x : Img) (G : Mats) (b o : Fin 16) (a c : Fin 3) (r w : Fin 128) (p t : Fin 3) : EReal :=
  ∑ i, ∑ s, (∑ q, x b i r w q s * G o i a c p q) * G o i a c t s

/-- Tap `(a, c)` moved by `(a, c)` within the 130×130 result; zero outside its window. -/
def moved (x : Img) (G : Mats) (b o : Fin 16) (a c : Fin 3) (R C : ℕ) (p t : Fin 3) : EReal :=
  if h : (a.val ≤ R ∧ R < a.val + 128) ∧ (c.val ≤ C ∧ C < c.val + 128) then
    tap x G b o a c ⟨R - a.val, by omega⟩ ⟨C - c.val, by omega⟩ p t
  else 0

/-- The nine taps added up, in the order of the taps. -/
def spread (x : Img) (G : Mats) (b o : Fin 16) (R C : ℕ) (p t : Fin 3) : EReal :=
  ((((((((0 + moved x G b o 0 0 R C p t) + moved x G b o 0 1 R C p t) + moved x G b o 0 2 R C p t) + moved x G b o 1 0 R C p t)
    + moved x G b o 1 1 R C p t) + moved x G b o 1 2 R C p t) + moved x G b o 2 0 R C p t) + moved x G b o 2 1 R C p t)
    + moved x G b o 2 2 R C p t

/-- The last channel of the image with a border of zeros. -/
def padded (x : Img) (b : Fin 16) (R C : ℕ) (q s : Fin 3) : EReal :=
  if h : (1 ≤ R ∧ R < 129) ∧ (1 ≤ C ∧ C < 129) then x b 15 ⟨R - 1, by omega⟩ ⟨C - 1, by omega⟩ q s else 0

/-- The value inside the border: the last channel plus four of its taps. -/
def inside (x : Img) (G : Mats) (b o : Fin 16) (R C : ℕ) (p t : Fin 3) : EReal :=
  (((padded x b R C p t + conj (G o 15 1 0) (padded x b R (C + 1)) p t) + conj (G o 15 0 2) (padded x b (R + 1) (C - 1)) p t)
    + conj (G o 15 0 1) (padded x b (R + 1) C) p t) + conj (G o 15 0 0) (padded x b (R + 1) (C + 1)) p t

/-- The result. -/
def outcome (x : Img) (G : Mats) (b o : Fin 16) (R C : ℕ) (p t : Fin 3) : EReal :=
  if (1 ≤ R ∧ R < 129) ∧ (1 ≤ C ∧ C < 129) then inside x G b o R C p t else spread x G b o R C p t

end Cert.Cayley
-- ==== Proof.Payloads.lean ====
/- What the kernel's stores write, read at an index: a line of the ring (three shifted products along one side) and the
   interior's product of five stacked copies of the last channel. -/
module

public import proofs.«01_k».proof.Proof.Gen.KernelIdeal.Skeleton
public import Idealize.ShloMosaic.Lib.StableHlo.ReadAt
public import Idealize.ShloMosaic.Lib.MatmulPlain
public import Idealize.ShloMosaic.PureOps.Ideal

@[expose] public section

noncomputable section

namespace Cert.Cayley

open Cert.KernelIdeal Cert.KernelIdeal.Gen Idealize.ShloMosaic Idealize.ShloMosaic.TcCoe Idealize.SL.Sem Idealize.ShloMosaic.StableHlo

/-- A side's product with one matrix, moved by `d` along the side; zero off its window. -/
def line (e : Fin 128 → Fin 144 → EReal) (M : Fin 144 → Fin 144 → EReal) (d pos : ℕ) (n : Fin 144) : EReal :=
  if h : d ≤ pos ∧ pos < d + 128 then ∑ k, e ⟨pos - d, by omega⟩ k * M k n else 0

/-- Three lines added up: a side of the ring. -/
def side (e : Fin 128 → Fin 144 → EReal) (M₀ M₁ M₂ : Fin 144 → Fin 144 → EReal) (pos : ℕ) (n : Fin 144) : EReal :=
  (line e M₀ 0 pos n + line e M₁ 1 pos n) + line e M₂ 2 pos n

theorem bits_zero : (FloatOps.ofBits FTy.f32 0#32 : Ideal .f32) = (0 : EReal) := Ideal.ofBits_zero_f32

theorem ring_product (x : FVec Ideal S128x144 .f32) (M : FVec Ideal S144x144 .f32) (r : Fin 128) (n : Fin 144) :
    (matmul dot_S128x144_S144x144_S128x144_1_0_0_1_n_n none x M (constant S128x144 FTy.f32 0#32) : FVec Ideal S128x144 .f32) (ix2 r n)
      = ∑ k : Fin 144, x (ix2 r k) * M (ix2 k n) := by
  refine (Ideal.matmul_plain_apply none x M (constant S128x144 FTy.f32 0#32) r n).trans ?_
  refine (congrArg (· + _) (bits_zero : (constant S128x144 FTy.f32 0#32 : FVec Ideal S128x144 .f32) (ix2 r n) = (0 : EReal))).trans ?_
  exact zero_add _

/-- Three products, padded by zeros to the side's length and added up. -/
theorem three_lines (A₀ A₁ A₂ : FVec Ideal S128x144 .f32) (pos : Fin 130) (n : Fin 144) :
    (addf (addf (concatenate S130x144 0 [⟨S128x144, A₀⟩, ⟨S2x144, broadcast S2x144 (Scalar.ofBits .f32 0x00000000#32)⟩] concatenates_S128x144_S2x144_S130x144_d0)
        (concatenate S130x144 0 [⟨S1x144, broadcast S1x144 (Scalar.ofBits .f32 0x00000000#32)⟩, ⟨S128x144, A₁⟩, ⟨S1x144, broadcast S1x144 (Scalar.ofBits .f32 0x00000000#32)⟩] concatenates_S1x144_S128x144_S1x144_S130x144_d0))
      (concatenate S130x144 0 [⟨S2x144, broadcast S2x144 (Scalar.ofBits .f32 0x00000000#32)⟩, ⟨S128x144, A₂⟩] concatenates_S2x144_S128x144_S130x144_d0) : FVec Ideal S130x144 .f32) (ix2 pos n)
    = (((if h : 0 ≤ pos.val ∧ pos.val < 0 + 128 then A₀ (ix2 ⟨pos.val - 0, by omega⟩ n) else 0)
        + (if h : 1 ≤ pos.val ∧ pos.val < 1 + 128 then A₁ (ix2 ⟨pos.val - 1, by omega⟩ n) else 0))
        + (if h : 2 ≤ pos.val ∧ pos.val < 2 + 128 then A₂ (ix2 ⟨pos.val - 2, by omega⟩ n) else 0) : EReal) := by
  pointwise
  refine congrArg₂ (fun x y : EReal => x + y) (congrArg₂ (fun x y : EReal => x + y) ?_ ?_) ?_
  · by_cases h : pos.val < 128
    · rw [dif_pos h, dif_pos (by omega)]
    · rw [dif_neg h, dif_neg (by omega)]; exact bits_zero
  · by_cases h0 : pos.val < 1
    · rw [dif_pos h0, dif_neg (by omega)]; exact bits_zero
    · by_cases h : pos.val - 1 < 128
      · rw [dif_neg h0, dif_pos h, dif_pos (by omega)]
      · rw [dif_neg h0, dif_neg h, dif_neg (by omega)]; exact bits_zero
  · by_cases h : pos.val < 2
    · rw [dif_pos h, dif_neg (by omega)]; exact bits_zero
    · rw [dif_neg h, dif_pos (by omega)]

/-- The same with the products written out. -/
theorem side_of_products (x : FVec Ideal S128x144 .f32) (M₀ M₁ M₂ : FVec Ideal S144x144 .f32) (pos : Fin 130) (n : Fin 144) :
    (((if h : 0 ≤ pos.val ∧ pos.val < 0 + 128 then
          (matmul dot_S128x144_S144x144_S128x144_1_0_0_1_n_n none x M₀ (constant S128x144 FTy.f32 0#32) : FVec Ideal S128x144 .f32) (ix2 ⟨pos.val - 0, by omega⟩ n) else 0)
        + (if h : 1 ≤ pos.val ∧ pos.val < 1 + 128 then
          (matmul dot_S128x144_S144x144_S128x144_1_0_0_1_n_n none x M₁ (constant S128x144 FTy.f32 0#32) : FVec Ideal S128x144 .f32) (ix2 ⟨pos.val - 1, by omega⟩ n) else 0))
        + (if h : 2 ≤ pos.val ∧ pos.val < 2 + 128 then
          (matmul dot_S128x144_S144x144_S128x144_1_0_0_1_n_n none x M₂ (constant S128x144 FTy.f32 0#32) : FVec Ideal S128x144 .f32) (ix2 ⟨pos.val - 2, by omega⟩ n) else 0) : EReal)
      = side (fun r k => x (ix2 r k)) (fun k n => M₀ (ix2 k n)) (fun k n => M₁ (ix2 k n)) (fun k n => M₂ (ix2 k n)) pos.val n := by
  simp only [ring_product]
  rfl

theorem pay1_at (v37 : Vec Ideal S1x1x128x144 .f32) (v39 v44 v50 : Vec Ideal S1x144x144 .f32) (pos : Fin 130) (n : Fin 144) :
    k0_pay1 v37 v39 v44 v50 (ix4 0 0 pos n)
      = side (fun r k => v37 (ix4 0 0 r k)) (fun k n => v39 (ix3 0 k n)) (fun k n => v44 (ix3 0 k n)) (fun k n => v50 (ix3 0 k n)) pos.val n := by
  unfold k0_pay1
  rw [show (∀ y : FVec Ideal S130x144 .f32, shapeCast S1x1x130x144 y shapeCasts_S130x144_S1x1x130x144 (ix4 0 0 pos n) = y (ix2 pos n)) from
    fun y => by pointwise]
  rw [three_lines, side_of_products]
  pointwise

theorem pay2_at (v37 : Vec Ideal S1x1x128x144 .f32) (v39 v44 v50 : Vec Ideal S1x144x144 .f32) (pos : Fin 130) (n : Fin 144) :
    k0_pay2 v37 v39 v44 v50 (ix4 0 0 pos n)
      = side (fun r k => v37 (ix4 0 0 r k)) (fun k n => v39 (ix3 0 k n)) (fun k n => v44 (ix3 0 k n)) (fun k n => v50 (ix3 0 k n)) pos.val n :=
  pay1_at v37 v39 v44 v50 pos n

theorem pay3_at (v37 : Vec Ideal S1x1x128x144 .f32) (v39 v44 v50 : Vec Ideal S1x144x144 .f32) (pos : Fin 130) (n : Fin 144) :
    k0_pay3 v37 v39 v44 v50 (ix3 0 pos n)
      = side (fun r k => v37 (ix4 0 0 r k)) (fun k n => v39 (ix3 0 k n)) (fun k n => v44 (ix3 0 k n)) (fun k n => v50 (ix3 0 k n)) pos.val n := by
  unfold k0_pay3
  rw [show (∀ y : FVec Ideal S130x144 .f32, shapeCast S1x130x144 y shapeCasts_S130x144_S1x130x144 (ix3 0 pos n) = y (ix2 pos n)) from
    fun y => by pointwise]
  rw [three_lines, side_of_products]
  pointwise

theorem pay7_at (v60 : Vec Ideal S1x1x128x144 .f32) (v62 v67 v73 : Vec Ideal S1x144x144 .f32) (pos : Fin 130) (n : Fin 144) :
    k0_pay7 (k0_pay4 v60) (k0_pay5 v60 v62) v67 v73 (ix3 0 pos n)
      = side (fun r k => v60 (ix4 0 0 r k)) (fun k n => v62 (ix3 0 k n)) (fun k n => v67 (ix3 0 k n)) (fun k n => v73 (ix3 0 k n)) pos.val n :=
  pay3_at v60 v62 v67 v73 pos n

theorem pay8_at (v : Vec Ideal S1x65x144 .f32) (r : Fin 65) (n : Fin 144) : k0_pay8 v (ix4 0 r 0 n) = v (ix3 0 r n) := by
  unfold k0_pay8
  pointwise
theorem pay9_at (v : Vec Ideal S1x65x144 .f32) (r : Fin 65) (n : Fin 144) : k0_pay9 v (ix4 0 r 0 n) = v (ix3 0 r n) := pay8_at v r n
theorem pay10_at (v : Vec Ideal S1x65x144 .f32) (r : Fin 65) (n : Fin 144) : k0_pay10 v (ix4 0 r 0 n) = v (ix3 0 r n) := pay8_at v r n
theorem pay11_at (v : Vec Ideal S1x65x144 .f32) (r : Fin 65) (n : Fin 144) : k0_pay11 v (ix4 0 r 0 n) = v (ix3 0 r n) := pay8_at v r n

end Cert.Cayley
-- ==== Proof.PayloadInterior.lean ====
/- The interior's product, read at an index: five sums of nine terms. -/
module

public import proofs.«01_k».proof.Proof.Gen.KernelIdeal.Skeleton
public import Idealize.ShloMosaic.Lib.StableHlo.ReadAt
public import Idealize.ShloMosaic.Lib.MatmulPlain
public import Idealize.ShloMosaic.PureOps.Ideal

@[expose] public section

noncomputable section

namespace Cert.Cayley

open Cert.KernelIdeal Cert.KernelIdeal.Gen Idealize.ShloMosaic Idealize.ShloMosaic.TcCoe Idealize.SL.Sem Idealize.ShloMosaic.StableHlo

theorem interior_product (x : FVec Ideal S8320x45 .f32) (M : FVec Ideal S45x144 .f32) (r : Fin 8320) (n : Fin 144) :
    (matmul dot_S8320x45_S45x144_S8320x144_1_0_0_1_n_n none x M (constant S8320x144 FTy.f32 0#32) : FVec Ideal S8320x144 .f32) (ix2 r n)
      = ∑ k : Fin 45, x (ix2 r k) * M (ix2 k n) := by
  refine (Ideal.matmul_plain_apply none x M (constant S8320x144 FTy.f32 0#32) r n).trans ?_
  refine (congrArg (· + _) (Ideal.ofBits_zero_f32 : (constant S8320x144 FTy.f32 0#32 : FVec Ideal S8320x144 .f32) (ix2 r n) = (0 : EReal))).trans ?_
  exact zero_add _

/-- A sum over 45 positions, as five sums over nine. -/
theorem sum_45 (f : Fin 45 → EReal) : ∑ k, f k
    = ((((∑ j : Fin 9, f ⟨j.val, by omega⟩) + ∑ j : Fin 9, f ⟨9 + j.val, by omega⟩) + ∑ j : Fin 9, f ⟨18 + j.val, by omega⟩)
      + ∑ j : Fin 9, f ⟨27 + j.val, by omega⟩) + ∑ j : Fin 9, f ⟨36 + j.val, by omega⟩ := by
  rw [show (∑ k, f k) = ∑ k : Fin (36 + 9), f k from rfl, Fin.sum_univ_add]
  rw [show (∑ k : Fin 36, f (Fin.castAdd 9 k)) = ∑ k : Fin (27 + 9), f (Fin.castAdd 9 k) from rfl, Fin.sum_univ_add]
  rw [show (∑ k : Fin 27, f (Fin.castAdd 9 (Fin.castAdd 9 k))) = ∑ k : Fin (18 + 9), f (Fin.castAdd 9 (Fin.castAdd 9 k)) from rfl, Fin.sum_univ_add]
  rw [show (∑ k : Fin 18, f (Fin.castAdd 9 (Fin.castAdd 9 (Fin.castAdd 9 k)))) = ∑ k : Fin (9 + 9), f (Fin.castAdd 9 (Fin.castAdd 9 (Fin.castAdd 9 k))) from rfl, Fin.sum_univ_add]
  rfl

/-- A row moved one column to the left, a zero coming in. -/
def fromRight (Y : Fin 128 → Fin 9 → EReal) (w : Fin 128) (j : Fin 9) : EReal :=
  if h : w.val < 127 then Y ⟨1 + w.val, by omega⟩ j else 0
/-- A row moved one column to the right, a zero coming in. -/
def fromLeft (Y : Fin 128 → Fin 9 → EReal) (w : Fin 128) (j : Fin 9) : EReal :=
  if h : w.val < 1 then 0 else Y ⟨w.val - 1, by omega⟩ j

/-- The row of the block and, for its last row, the first row of the next block. -/
def nextRow (v0 : Vec Ideal S1x65x128x9 .f32) (v3 : Vec Ideal S1x1x128x9 .f32) (r : Fin 65) (w : Fin 128) (j : Fin 9) : EReal :=
  if h : r.val < 64 then v0 (ix4 0 ⟨1 + r.val, by omega⟩ w j) else v3 (ix4 0 0 w j)

theorem word_zero : (FloatOps.ofBits FTy.f32 0#32 : Ideal .f32) = (0 : EReal) := Ideal.ofBits_zero_f32

theorem pay6_at (v0 : Vec Ideal S1x65x128x9 .f32) (v3 : Vec Ideal S1x1x128x9 .f32) (v15 : Vec Ideal S45x144 .f32) (r : Fin 65) (w : Fin 128) (n : Fin 144) :
    k0_pay6 v0 v3 v15 (ix4 0 r w n)
      = ((((∑ j : Fin 9, v0 (ix4 0 r w j) * v15 (ix2 ⟨j.val, by omega⟩ n))
          + ∑ j : Fin 9, fromRight (fun w j => v0 (ix4 0 r w j)) w j * v15 (ix2 ⟨9 + j.val, by omega⟩ n))
          + ∑ j : Fin 9, fromLeft (nextRow v0 v3 r) w j * v15 (ix2 ⟨18 + j.val, by omega⟩ n))
          + ∑ j : Fin 9, nextRow v0 v3 r w j * v15 (ix2 ⟨27 + j.val, by omega⟩ n))
          + ∑ j : Fin 9, fromRight (nextRow v0 v3 r) w j * v15 (ix2 ⟨36 + j.val, by omega⟩ n) := by
  unfold k0_pay6
  pointwise
  rw [interior_product, sum_45]
  refine congrArg₂ (fun x y : EReal => x + y) (congrArg₂ (fun x y : EReal => x + y) (congrArg₂ (fun x y : EReal => x + y)
    (congrArg₂ (fun x y : EReal => x + y) ?_ ?_) ?_) ?_) ?_
  · refine Finset.sum_congr rfl fun j _ => congrArg (· * _) ?_
    pointwise
  · refine Finset.sum_congr rfl fun j _ => congrArg (· * _) ?_
    pointwise
    unfold fromRight
    rw [word_zero]
  · refine Finset.sum_congr rfl fun j _ => congrArg (· * _) ?_
    pointwise
    rw [dif_neg (by omega), dif_neg (by omega), dif_pos (by omega)]
    have e : 18 + j.val - 9 - 9 = j.val := by omega
    unfold fromLeft nextRow
    simp only [e, word_zero]
    try rfl
  · refine Finset.sum_congr rfl fun j _ => congrArg (· * _) ?_
    pointwise
    rw [dif_neg (by omega), dif_neg (by omega), dif_neg (by omega), dif_pos (by omega)]
    have e : 27 + j.val - 9 - 9 - 9 = j.val := by omega
    unfold nextRow
    simp only [e, word_zero]
    try rfl
  · refine Finset.sum_congr rfl fun j _ => congrArg (· * _) ?_
    pointwise
    rw [dif_neg (by omega), dif_neg (by omega), dif_neg (by omega), dif_neg (by omega)]
    have e : 36 + j.val - 9 - 9 - 9 - 9 = j.val := by omega
    unfold fromRight nextRow
    simp only [e, word_zero]
    try rfl

end Cert.Cayley
-- ==== Proof.Blocks.lean ====
/- What one grid point leaves in the output's block and in the carried scratch, read at an index. -/
module

public import proofs.«01_k».proof.Proof.Gen.KernelIdeal.Frame
public import proofs.«01_k».proof.Proof.Payloads
public import proofs.«01_k».proof.Proof.PayloadInterior
public import Idealize.ShloMosaic.Lib.Pipeline.Value
public import Idealize.ShloMosaic.Lib.Tactic

@[expose] public section

set_option maxRecDepth 16384

noncomputable section

namespace Cert.Cayley

open Cert.KernelIdeal Cert.KernelIdeal.Gen Idealize.ShloMosaic Idealize.ShloMosaic.TcCoe Idealize.SL.Sem Idealize.ShloMosaic.StableHlo

/-- A piece written last, read inside it. -/
theorem canon_at {s : Shape} (r : Rect s) (w : r.shape.Idx → Ideal .f32) (L : List (View.Piece (Elt Ideal) s .f32)) (y : s.Idx) (x : r.shape.Idx)
    (h : r.emb x = y) : View.canon (⟨r, w⟩ :: L) y = w x := by
  subst h
  exact View.canon_cons_emb r w L x

/-- A piece written last, read outside it. -/
theorem canon_off {s : Shape} (off size : Fin s.rank → Nat) (inb) (w : (Rect.unit off size inb).shape.Idx → Ideal .f32)
    (L : List (View.Piece (Elt Ideal) s .f32)) (y : s.Idx) (a : Fin s.rank) (h : ¬(off a ≤ (y a).val ∧ (y a).val < off a + size a)) :
    View.canon (⟨Rect.unit off size inb, w⟩ :: L) y = View.canon L y :=
  View.canon_cons_of_not_mem _ L (by
    rw [Rect.mem_set_unit]
    exact fun hm => h (hm a))

/-- Side `s` of the ring from the staged edges and matrices. -/
def ringSide (x2 : Vec Ideal S1x4x128x144 .f32) (x4 : Vec Ideal S12x144x144 .f32) (s : Fin 4) (pos : ℕ) (n : Fin 144) : EReal :=
  side (fun r k => x2 (ix4 0 s r k)) (fun k n => x4 (ix3 ⟨3 * s.val, by omega⟩ k n)) (fun k n => x4 (ix3 ⟨3 * s.val + 1, by omega⟩ k n))
    (fun k n => x4 (ix3 ⟨3 * s.val + 2, by omega⟩ k n)) pos n

/-- The interior from the staged rows and matrix. -/
def interior (x0 x1 : Vec Ideal S1x65x128x9 .f32) (x3 : Vec Ideal S45x144 .f32) (r : Fin 65) (w : Fin 128) (n : Fin 144) : EReal :=
  ((((∑ j : Fin 9, x0 (ix4 0 r w j) * x3 (ix2 ⟨j.val, by omega⟩ n))
    + ∑ j : Fin 9, fromRight (fun w j => x0 (ix4 0 r w j)) w j * x3 (ix2 ⟨9 + j.val, by omega⟩ n))
    + ∑ j : Fin 9, fromLeft (nextRow x0 (fun y => x1 (ix4 0 0 (y 2) (y 3))) r) w j * x3 (ix2 ⟨18 + j.val, by omega⟩ n))
    + ∑ j : Fin 9, nextRow x0 (fun y => x1 (ix4 0 0 (y 2) (y 3))) r w j * x3 (ix2 ⟨27 + j.val, by omega⟩ n))
    + ∑ j : Fin 9, fromRight (nextRow x0 (fun y => x1 (ix4 0 0 (y 2) (y 3))) r) w j * x3 (ix2 ⟨36 + j.val, by omega⟩ n)

theorem ld_edge (x2 : Vec Ideal S1x4x128x144 .f32) (s : Fin 4) (inb) (r : Fin 128) (k : Fin 144) :
    View.ld (e' := .f32) (Val := Elt Ideal) x2 (Rect.unit ![0, s.val, 0, 0] ![1, 1, 128, 144] inb) (ix4 0 0 r k) = x2 (ix4 0 s r k) :=
  congrArg x2 (funext fun a => Fin.ext (by fin_cases a <;> simp [ix4]))

theorem ld_matrix (x4 : Vec Ideal S12x144x144 .f32) (j : Fin 12) (inb) (k n : Fin 144) :
    View.ld (Val := Elt Ideal) x4 (Rect.unit ![j.val, 0, 0] ![1, 144, 144] inb) (ix3 0 k n) = x4 (ix3 j k n) :=
  congrArg x4 (funext fun a => Fin.ext (by fin_cases a <;> simp [ix3]))

theorem ld_next (x1 : Vec Ideal S1x65x128x9 .f32) (inb) :
    (View.ld (Val := Elt Ideal) (e' := .f32) x1 (Rect.unit ![0, 0, 0, 0] ![1, 1, 128, 9] inb) : Vec Ideal S1x1x128x9 .f32) = fun y => x1 (ix4 0 0 (y 2) (y 3)) :=
  funext fun y => congrArg x1 (funext fun a => Fin.ext (by
    have h0 : (y 0).val < 1 := (y 0).isLt
    have h1 : (y 1).val < 1 := (y 1).isLt
    fin_cases a <;> simp [ix4] <;> omega))

theorem hz4 : (![0, 0, 0, 0] : Fin 4 → Nat) = fun _ => 0 := funext fun a => by fin_cases a <;> rfl
theorem hz2 : (![0, 0] : Fin 2 → Nat) = fun _ => 0 := funext fun a => by fin_cases a <;> rfl

/-- The interior's store, with the staged blocks put in. -/
theorem pay6_staged (x0 x1 : Vec Ideal S1x65x128x9 .f32) (x3 : Vec Ideal S45x144 .f32) (inb0) (inb1) (inb3) (r : Fin 65) (w : Fin 128) (n : Fin 144) :
    k0_pay6 (View.ld (Val := Elt Ideal) (e' := .f32) x0 (Rect.unit ![0, 0, 0, 0] ![1, 65, 128, 9] inb0))
      (View.ld (Val := Elt Ideal) (e' := .f32) x1 (Rect.unit ![0, 0, 0, 0] ![1, 1, 128, 9] inb1))
      (View.ld (Val := Elt Ideal) (e' := .f32) x3 (Rect.unit ![0, 0] ![45, 144] inb3)) (ix4 0 r w n) = interior x0 x1 x3 r w n := by
  rw [pay6_at, ld_next]
  rw [show View.ld (Val := Elt Ideal) (e' := .f32) x0 (Rect.unit ![0, 0, 0, 0] ![1, 65, 128, 9] inb0) = x0 from View.ld_unit_zero (S := S1x65x128x9) hz4 _ _,
    show View.ld (Val := Elt Ideal) (e' := .f32) x3 (Rect.unit ![0, 0] ![45, 144] inb3) = x3 from View.ld_unit_zero (S := S45x144) hz2 _ _]
  rfl

/-- A side's four loads put in. -/
theorem side_staged (x2 : Vec Ideal S1x4x128x144 .f32) (x4 : Vec Ideal S12x144x144 .f32) (s : Fin 4) (j₀ j₁ j₂ : Fin 12) (h₀ : j₀.val = 3 * s.val)
    (h₁ : j₁.val = 3 * s.val + 1) (h₂ : j₂.val = 3 * s.val + 2) (ie) (i₀) (i₁) (i₂) (pos : ℕ) (n : Fin 144) :
    side (fun r k => View.ld (e' := .f32) (Val := Elt Ideal) x2 (Rect.unit ![0, s.val, 0, 0] ![1, 1, 128, 144] ie) (ix4 0 0 r k))
      (fun k n => View.ld (e' := .f32) (Val := Elt Ideal) x4 (Rect.unit ![j₀.val, 0, 0] ![1, 144, 144] i₀) (ix3 0 k n))
      (fun k n => View.ld (e' := .f32) (Val := Elt Ideal) x4 (Rect.unit ![j₁.val, 0, 0] ![1, 144, 144] i₁) (ix3 0 k n))
      (fun k n => View.ld (e' := .f32) (Val := Elt Ideal) x4 (Rect.unit ![j₂.val, 0, 0] ![1, 144, 144] i₂) (ix3 0 k n)) pos n
      = ringSide x2 x4 s pos n := by
  unfold ringSide
  congr 1
  · exact funext fun r => funext fun k => ld_edge x2 s ie r k
  · exact funext fun k => funext fun n => (ld_matrix x4 _ i₀ k n).trans (congrArg (fun j => x4 (ix3 j k n)) (Fin.ext h₀))
  · exact funext fun k => funext fun n => (ld_matrix x4 _ i₁ k n).trans (congrArg (fun j => x4 (ix3 j k n)) (Fin.ext h₁))
  · exact funext fun k => funext fun n => (ld_matrix x4 _ i₂ k n).trans (congrArg (fun j => x4 (ix3 j k n)) (Fin.ext h₂))

/-- What the first of a sample's two points leaves in the carried scratch: sides 2 and 3. -/
theorem scratch_A (c : Dev nD) (i : grid0.Coords) (arg2 : Memref sig .tc .vmem S1x65x128x9 .f32) (harg2 : arg2.IsWhole) (arg3 : Memref sig .tc .vmem S1x65x128x9 .f32) (harg3 : arg3.IsWhole) (arg4 : Memref sig .tc .vmem S1x4x128x144 .f32) (harg4 : arg4.IsWhole) (arg5 : Memref sig .tc .vmem S45x144 .f32) (harg5 : arg5.IsWhole) (arg6 : Memref sig .tc .vmem S12x144x144 .f32) (harg6 : arg6.IsWhole) (arg7 : Memref sig .tc .vmem S1x65x130x144 .f32) (harg7 : arg7.IsWhole) (arg8 : Memref sig .tc .vmem S2x130x144 .f32) (harg8 : arg8.IsWhole) (hc0 : cond0_0 i) (hc1 : cond0_1 i) (hc2 : ¬cond0_2 i) (hc3 : cond0_3 i) (hc4 : ¬cond0_4 i)
    (x0 : Vec Ideal S1x65x128x9 .f32) (x1 : Vec Ideal S1x65x128x9 .f32) (x2 : Vec Ideal S1x4x128x144 .f32) (x3 : Vec Ideal S45x144 .f32) (x4 : Vec Ideal S12x144x144 .f32) (s : Fin 2) (pos : Fin 130) (n : Fin 144) :
    sout0_A_0 c i arg2 harg2 arg3 harg3 arg4 harg4 arg5 harg5 arg6 harg6 arg7 harg7 arg8 harg8 hc0 hc1 hc2 hc3 hc4 x0 x1 x2 x3 x4 (ix3 s pos n) = ringSide x2 x4 ⟨2 + s.val, by omega⟩ pos.val n := by
  unfold sout0_A_0
  rw [View.read_writes_eq_canon _ _ _ (scover0_A_0 c i arg2 harg2 arg3 harg3 arg4 harg4 arg5 harg5 arg6 harg6 arg7 harg7 arg8 harg8 hc0 hc1 hc2 hc3 hc4 x0 x1 x2 x3 x4)]
  unfold kernelRun0_A
  dsimp only
  sl_unfold_words
  simp only [View.readAt_eq_ld, View.readCov_eq_canon', harg4.read_unread, harg6.read_unread]
  match s with
  | ⟨0, _⟩ =>
    refine (canon_off _ _ _ _ _ _ 0 (by simp [ix3])).trans ((canon_at _ _ _ _ (ix3 0 pos n) (funext fun a => Fin.ext (by fin_cases a <;> simp [ix3]))).trans ?_)
    exact (pay3_at _ _ _ _ pos n).trans (side_staged x2 x4 2 6 7 8 rfl rfl rfl _ _ _ _ pos.val n)
  | ⟨1, _⟩ =>
    refine (canon_at _ _ _ _ (ix3 0 pos n) (funext fun a => Fin.ext (by fin_cases a <;> simp [ix3]))).trans ?_
    exact (pay7_at _ _ _ _ pos n).trans (side_staged x2 x4 3 9 10 11 rfl rfl rfl _ _ _ _ pos.val n)

/-- What the first of a sample's two points leaves in the output's block. -/
theorem block_A (c : Dev nD) (i : grid0.Coords) (arg2 : Memref sig .tc .vmem S1x65x128x9 .f32) (harg2 : arg2.IsWhole) (arg3 : Memref sig .tc .vmem S1x65x128x9 .f32) (harg3 : arg3.IsWhole) (arg4 : Memref sig .tc .vmem S1x4x128x144 .f32) (harg4 : arg4.IsWhole) (arg5 : Memref sig .tc .vmem S45x144 .f32) (harg5 : arg5.IsWhole) (arg6 : Memref sig .tc .vmem S12x144x144 .f32) (harg6 : arg6.IsWhole) (arg7 : Memref sig .tc .vmem S1x65x130x144 .f32) (harg7 : arg7.IsWhole) (arg8 : Memref sig .tc .vmem S2x130x144 .f32) (harg8 : arg8.IsWhole) (hc0 : cond0_0 i) (hc1 : cond0_1 i) (hc2 : ¬cond0_2 i) (hc3 : cond0_3 i) (hc4 : ¬cond0_4 i)
    (x0 : Vec Ideal S1x65x128x9 .f32) (x1 : Vec Ideal S1x65x128x9 .f32) (x2 : Vec Ideal S1x4x128x144 .f32) (x3 : Vec Ideal S45x144 .f32) (x4 : Vec Ideal S12x144x144 .f32) (r : Fin 65) (C : Fin 130) (n : Fin 144) :
    out0_A_5 c i arg2 harg2 arg3 harg3 arg4 harg4 arg5 harg5 arg6 harg6 arg7 harg7 arg8 harg8 hc0 hc1 hc2 hc3 hc4 x0 x1 x2 x3 x4 (ix4 0 r C n)
      = if r.val = 0 then ringSide x2 x4 0 C.val n
        else if C.val = 129 then ringSide x2 x4 3 r.val n
        else if C.val = 0 then ringSide x2 x4 2 r.val n
        else interior x0 x1 x3 r ⟨(C.val - 1) % 128, Nat.mod_lt _ (by decide)⟩ n := by
  unfold out0_A_5
  rw [View.read_writes_eq_canon _ _ _ (cover0_A_5 c i arg2 harg2 arg3 harg3 arg4 harg4 arg5 harg5 arg6 harg6 arg7 harg7 arg8 harg8 hc0 hc1 hc2 hc3 hc4 x0 x1 x2 x3 x4)]
  unfold kernelRun0_A
  dsimp only
  sl_unfold_words
  simp only [View.readAt_eq_ld, View.readCov_eq_canon', harg2.read_unread, harg3.read_unread, harg4.read_unread, harg5.read_unread, harg6.read_unread]
  have hr := r.isLt
  have hC := C.isLt
  split_ifs with h0 h1 h2
  · refine (canon_at _ _ _ _ (ix4 0 0 C n) (funext fun a => Fin.ext (by fin_cases a <;> simp [ix4, h0]))).trans ?_
    exact (pay1_at _ _ _ _ C n).trans (side_staged x2 x4 0 0 1 2 rfl rfl rfl _ _ _ _ C.val n)
  · refine (canon_off _ _ _ _ _ _ 1 (by simp [ix4]; omega)).trans ((canon_at _ _ _ _ (ix4 0 r 0 n) (funext fun a => Fin.ext (by fin_cases a <;> simp [ix4, h1]))).trans ?_)
    refine (pay9_at _ r n).trans ?_
    refine (canon_at _ _ _ _ (ix3 0 ⟨r.val, by omega⟩ n) (funext fun a => Fin.ext (by fin_cases a <;> simp [ix3]))).trans ?_
    exact (pay7_at _ _ _ _ ⟨r.val, by omega⟩ n).trans (side_staged x2 x4 3 9 10 11 rfl rfl rfl _ _ _ _ r.val n)
  · refine (canon_off _ _ _ _ _ _ 1 (by simp [ix4]; omega)).trans ((canon_off _ _ _ _ _ _ 2 (by simp [ix4]; omega)).trans
      ((canon_at _ _ _ _ (ix4 0 r 0 n) (funext fun a => Fin.ext (by fin_cases a <;> simp [ix4, h2]))).trans ?_))
    refine (pay8_at _ r n).trans ?_
    refine (canon_off _ _ _ _ _ _ 0 (by simp [ix3])).trans ?_
    refine (canon_at _ _ _ _ (ix3 0 ⟨r.val, by omega⟩ n) (funext fun a => Fin.ext (by fin_cases a <;> simp [ix3]))).trans ?_
    exact (pay3_at _ _ _ _ ⟨r.val, by omega⟩ n).trans (side_staged x2 x4 2 6 7 8 rfl rfl rfl _ _ _ _ r.val n)
  · refine (canon_off _ _ _ _ _ _ 1 (by simp [ix4]; omega)).trans ((canon_off _ _ _ _ _ _ 2 (by simp [ix4]; omega)).trans
      ((canon_off _ _ _ _ _ _ 2 (by simp [ix4]; omega)).trans
      ((canon_at _ _ _ _ (ix4 0 r ⟨(C.val - 1) % 128, Nat.mod_lt _ (by decide)⟩ n) (funext fun a => Fin.ext (by fin_cases a <;> simp [ix4] <;> omega))).trans ?_)))
    exact pay6_staged x0 x1 x3 _ _ _ r _ n

/-- What the second of a sample's two points leaves in the output's block, from the carried scratch. -/
theorem block_B (c : Dev nD) (i : grid0.Coords) (arg2 : Memref sig .tc .vmem S1x65x128x9 .f32) (harg2 : arg2.IsWhole) (arg3 : Memref sig .tc .vmem S1x65x128x9 .f32) (harg3 : arg3.IsWhole) (arg4 : Memref sig .tc .vmem S1x4x128x144 .f32) (harg4 : arg4.IsWhole) (arg5 : Memref sig .tc .vmem S45x144 .f32) (harg5 : arg5.IsWhole) (arg6 : Memref sig .tc .vmem S12x144x144 .f32) (harg6 : arg6.IsWhole) (arg7 : Memref sig .tc .vmem S1x65x130x144 .f32) (harg7 : arg7.IsWhole) (arg8 : Memref sig .tc .vmem S2x130x144 .f32) (harg8 : arg8.IsWhole) (hc0 : ¬cond0_0 i) (hc1 : ¬cond0_1 i) (hc2 : cond0_2 i) (hc3 : ¬cond0_3 i) (hc4 : cond0_4 i)
    (x0 : Vec Ideal S1x65x128x9 .f32) (x1 : Vec Ideal S1x65x128x9 .f32) (x2 : Vec Ideal S1x4x128x144 .f32) (x3 : Vec Ideal S45x144 .f32) (x4 : Vec Ideal S12x144x144 .f32) (xs0 : Vec Ideal S2x130x144 .f32) (r : Fin 65) (C : Fin 130) (n : Fin 144) :
    out0_B_5 c i arg2 harg2 arg3 harg3 arg4 harg4 arg5 harg5 arg6 harg6 arg7 harg7 arg8 harg8 hc0 hc1 hc2 hc3 hc4 x0 x1 x2 x3 x4 xs0 (ix4 0 r C n)
      = if r.val = 64 then ringSide x2 x4 1 C.val n
        else if C.val = 129 then xs0 (ix3 1 ⟨65 + r.val, by omega⟩ n)
        else if C.val = 0 then xs0 (ix3 0 ⟨65 + r.val, by omega⟩ n)
        else interior x0 x1 x3 r ⟨(C.val - 1) % 128, Nat.mod_lt _ (by decide)⟩ n := by
  unfold out0_B_5
  rw [View.read_writes_eq_canon _ _ _ (cover0_B_5 c i arg2 harg2 arg3 harg3 arg4 harg4 arg5 harg5 arg6 harg6 arg7 harg7 arg8 harg8 hc0 hc1 hc2 hc3 hc4 x0 x1 x2 x3 x4 xs0)]
  unfold kernelRun0_B
  dsimp only
  sl_unfold_words
  simp only [View.readAt_eq_ld, View.readCov_eq_canon', harg2.read_unread, harg3.read_unread, harg4.read_unread, harg5.read_unread, harg6.read_unread, harg8.read_unread]
  have hr := r.isLt
  have hC := C.isLt
  split_ifs with h0 h1 h2
  · refine (canon_at _ _ _ _ (ix4 0 0 C n) (funext fun a => Fin.ext (by fin_cases a <;> simp [ix4, h0]))).trans ?_
    exact (pay2_at _ _ _ _ C n).trans (side_staged x2 x4 1 3 4 5 rfl rfl rfl _ _ _ _ C.val n)
  · refine (canon_off _ _ _ _ _ _ 1 (by simp [ix4]; omega)).trans ((canon_at _ _ _ _ (ix4 0 r 0 n) (funext fun a => Fin.ext (by fin_cases a <;> simp [ix4, h1]))).trans ?_)
    exact (pay11_at _ r n).trans (congrArg xs0 (funext fun a => Fin.ext (by fin_cases a <;> simp [ix3])))
  · refine (canon_off _ _ _ _ _ _ 1 (by simp [ix4]; omega)).trans ((canon_off _ _ _ _ _ _ 2 (by simp [ix4]; omega)).trans
      ((canon_at _ _ _ _ (ix4 0 r 0 n) (funext fun a => Fin.ext (by fin_cases a <;> simp [ix4, h2]))).trans ?_))
    exact (pay10_at _ r n).trans (congrArg xs0 (funext fun a => Fin.ext (by fin_cases a <;> simp [ix3])))
  · refine (canon_off _ _ _ _ _ _ 1 (by simp [ix4]; omega)).trans ((canon_off _ _ _ _ _ _ 2 (by simp [ix4]; omega)).trans
      ((canon_off _ _ _ _ _ _ 2 (by simp [ix4]; omega)).trans
      ((canon_at _ _ _ _ (ix4 0 r ⟨(C.val - 1) % 128, Nat.mod_lt _ (by decide)⟩ n) (funext fun a => Fin.ext (by fin_cases a <;> simp [ix4] <;> omega))).trans ?_)))
    exact pay6_staged x0 x1 x3 _ _ _ r _ n

end Cert.Cayley
-- ==== Proof.Output.lean ====
/- The pallas_call's result array: the blocks of its 32 points, put together. -/
module

public import proofs.«01_k».proof.Proof.Blocks

@[expose] public section

set_option maxRecDepth 16384

noncomputable section

namespace Cert.Cayley

open Cert.KernelIdeal Cert.KernelIdeal.Gen Idealize.ShloMosaic Idealize.ShloMosaic.TcCoe Idealize.SL.Sem Idealize.ShloMosaic.StableHlo
open Idealize.ShloMosaic.Pipeline (Dat)

/-- Side `s` of sample `b`'s ring, from the arrays. -/
def sideOf (E : Vec Ideal S16x4x128x144 .f32) (M : Vec Ideal S12x144x144 .f32) (b : Fin 16) (s : Fin 4) (pos : ℕ) (n : Fin 144) : EReal :=
  side (fun r k => E (ix4 b s r k)) (fun k n => M (ix3 ⟨3 * s.val, by omega⟩ k n)) (fun k n => M (ix3 ⟨3 * s.val + 1, by omega⟩ k n))
    (fun k n => M (ix3 ⟨3 * s.val + 2, by omega⟩ k n)) pos n

/-- Five sums of nine terms from two rows of the last channel. -/
def fiveSums (Y Z : Fin 128 → Fin 9 → EReal) (M : Vec Ideal S45x144 .f32) (w : Fin 128) (n : Fin 144) : EReal :=
  ((((∑ j : Fin 9, Y w j * M (ix2 ⟨j.val, by omega⟩ n))
    + ∑ j : Fin 9, fromRight Y w j * M (ix2 ⟨9 + j.val, by omega⟩ n))
    + ∑ j : Fin 9, fromLeft Z w j * M (ix2 ⟨18 + j.val, by omega⟩ n))
    + ∑ j : Fin 9, Z w j * M (ix2 ⟨27 + j.val, by omega⟩ n))
    + ∑ j : Fin 9, fromRight Z w j * M (ix2 ⟨36 + j.val, by omega⟩ n)

/-- The whole array, at an index. -/
def whole (U : Vec Ideal S16x130x128x9 .f32) (E : Vec Ideal S16x4x128x144 .f32) (M : Vec Ideal S45x144 .f32) (N : Vec Ideal S12x144x144 .f32)
    (b : Fin 16) (R C : Fin 130) (n : Fin 144) : EReal :=
  if R.val = 0 then sideOf E N b 0 C.val n
  else if R.val = 129 then sideOf E N b 1 C.val n
  else if C.val = 129 then sideOf E N b 3 R.val n
  else if C.val = 0 then sideOf E N b 2 R.val n
  else fiveSums (fun w j => U (ix4 b R w j)) (fun w j => U (ix4 b ⟨(R.val + 1) % 130, Nat.mod_lt _ (by decide)⟩ w j)) M
    ⟨(C.val - 1) % 128, Nat.mod_lt _ (by decide)⟩ n

variable (m : (ℓ : Loc nD τ sig) → Buf (Elt Ideal) ℓ)

abbrev rowsArray (c : Dev nD) : Vec Ideal S16x130x128x9 .f32 := V m c main_v306
abbrev edgeArray (c : Dev nD) : Vec Ideal S16x4x128x144 .f32 := V m c main_v327
abbrev insideArray (c : Dev nD) : Vec Ideal S45x144 .f32 := V m c main_v181
abbrev ringArray (c : Dev nD) : Vec Ideal S12x144x144 .f32 := V m c main_v302

theorem index0 : ∀ t : Fin grid0.N, ∀ a, win0_0.index t a = ![t.val / 2, t.val % 2, 0, 0] a := by decide +kernel
theorem index1 : ∀ t : Fin grid0.N, ∀ a, win0_1.index t a = ![t.val / 2, 1, 0, 0] a := by decide +kernel
theorem index2 : ∀ t : Fin grid0.N, ∀ a, win0_2.index t a = ![t.val / 2, 0, 0, 0] a := by decide +kernel
theorem index3 : ∀ t : Fin grid0.N, ∀ a, win0_3.index t a = ![0, 0] a := by decide +kernel
theorem index4 : ∀ t : Fin grid0.N, ∀ a, win0_4.index t a = ![0, 0, 0] a := by decide +kernel
theorem index5 : ∀ t : Fin grid0.N, ∀ a, win0_5.index t a = ![t.val / 2, t.val % 2, 0, 0] a := by decide +kernel

theorem points (t : Fin cfg0.N) : t.val < 32 := lt_of_lt_of_eq t.isLt (show cfg0.N = 32 from N_0)

theorem rows_block (c : Dev nD) (t : Fin cfg0.N) (r : Fin 65) (w : Fin 128) (j : Fin 9) :
    (iblk m c 0 t : Vec Ideal S1x65x128x9 .f32) (ix4 0 r w j)
      = rowsArray m c (ix4 ⟨t.val / 2, by have := points t; omega⟩ ⟨65 * (t.val % 2) + r.val, by omega⟩ w j) := by
  unfold iblk
  rw [View.read_apply]
  refine congrArg (V m c main_v306) (funext fun a => Fin.ext ?_)
  have h := index0 t a
  show win0_0.index t a * win0_0.size a + 1 * _ = _
  rw [h]
  fin_cases a <;> simp [ix4] <;> first | rfl | omega

theorem next_block (c : Dev nD) (t : Fin cfg0.N) (w : Fin 128) (j : Fin 9) :
    (iblk m c 1 t : Vec Ideal S1x65x128x9 .f32) (ix4 0 0 w j)
      = rowsArray m c (ix4 ⟨t.val / 2, by have := points t; omega⟩ 65 w j) := by
  unfold iblk
  rw [View.read_apply]
  refine congrArg (V m c main_v306) (funext fun a => Fin.ext ?_)
  have h := index1 t a
  show win0_1.index t a * win0_1.size a + 1 * _ = _
  rw [h]
  fin_cases a <;> simp [ix4] <;> first | rfl | omega

theorem edge_block (c : Dev nD) (t : Fin cfg0.N) (s : Fin 4) (r : Fin 128) (k : Fin 144) :
    (iblk m c 2 t : Vec Ideal S1x4x128x144 .f32) (ix4 0 s r k)
      = edgeArray m c (ix4 ⟨t.val / 2, by have := points t; omega⟩ s r k) := by
  unfold iblk
  rw [View.read_apply]
  refine congrArg (V m c main_v327) (funext fun a => Fin.ext ?_)
  have h := index2 t a
  show win0_2.index t a * win0_2.size a + 1 * _ = _
  rw [h]
  fin_cases a <;> simp [ix4] <;> first | rfl | omega

theorem inside_block (c : Dev nD) (t : Fin cfg0.N) (k : Fin 45) (n : Fin 144) :
    (iblk m c 3 t : Vec Ideal S45x144 .f32) (ix2 k n) = insideArray m c (ix2 k n) := by
  unfold iblk
  rw [View.read_apply]
  refine congrArg (V m c main_v181) (funext fun a => Fin.ext ?_)
  have h := index3 t a
  show win0_3.index t a * win0_3.size a + 1 * _ = _
  rw [h]
  fin_cases a <;> simp [ix2] <;> first | rfl | omega

theorem ring_block (c : Dev nD) (t : Fin cfg0.N) (j : Fin 12) (k n : Fin 144) :
    (iblk m c 4 t : Vec Ideal S12x144x144 .f32) (ix3 j k n) = ringArray m c (ix3 j k n) := by
  unfold iblk
  rw [View.read_apply]
  refine congrArg (V m c main_v302) (funext fun a => Fin.ext ?_)
  have h := index4 t a
  show win0_4.index t a * win0_4.size a + 1 * _ = _
  rw [h]
  fin_cases a <;> simp [ix3] <;> first | rfl | omega

end Cert.Cayley
-- ==== Proof.OutputValue.lean ====
/- The pallas_call's result array ends at `whole`, and the lines after it at its transpose. -/
module

public import proofs.«01_k».proof.Proof.Output
public import Idealize.ShloMosaic.Lib.Pipeline.FrameSuffix

@[expose] public section

set_option maxRecDepth 16384

noncomputable section

namespace Cert.Cayley

open Cert.KernelIdeal Cert.KernelIdeal.Gen Idealize.ShloMosaic Idealize.ShloMosaic.TcCoe Idealize.SL.Sem Idealize.ShloMosaic.StableHlo
open Idealize.ShloMosaic.Pipeline (Dat)

variable (m : (ℓ : Loc nD τ sig) → Buf (Elt Ideal) ℓ)

theorem ring_of_blocks (c : Dev nD) (t : Fin cfg0.N) (s : Fin 4) (pos : ℕ) (n : Fin 144) :
    ringSide (iblk m c 2 t) (iblk m c 4 t) s pos n
      = sideOf (edgeArray m c) (ringArray m c) ⟨t.val / 2, by have := points t; omega⟩ s pos n := by
  unfold ringSide sideOf
  congr 1
  · exact funext fun r => funext fun k => edge_block m c t s r k
  · exact funext fun k => funext fun n => ring_block m c t _ k n
  · exact funext fun k => funext fun n => ring_block m c t _ k n
  · exact funext fun k => funext fun n => ring_block m c t _ k n

theorem interior_of_blocks (c : Dev nD) (t : Fin cfg0.N) (r : Fin 65) (hr : 65 * (t.val % 2) + r.val < 129) (w : Fin 128) (n : Fin 144) :
    interior (iblk m c 0 t) (iblk m c 1 t) (iblk m c 3 t) r w n
      = fiveSums (fun w j => rowsArray m c (ix4 ⟨t.val / 2, by have := points t; omega⟩ ⟨65 * (t.val % 2) + r.val, by omega⟩ w j))
          (fun w j => rowsArray m c (ix4 ⟨t.val / 2, by have := points t; omega⟩ ⟨(65 * (t.val % 2) + r.val + 1) % 130, Nat.mod_lt _ (by decide)⟩ w j))
          (insideArray m c) w n := by
  have hY : (fun (w : Fin 128) (j : Fin 9) => (iblk m c 0 t : Vec Ideal S1x65x128x9 .f32) (ix4 0 r w j))
      = fun w j => rowsArray m c (ix4 ⟨t.val / 2, by have := points t; omega⟩ ⟨65 * (t.val % 2) + r.val, by omega⟩ w j) :=
    funext fun w => funext fun j => rows_block m c t r w j
  have hZ : nextRow (iblk m c 0 t) (fun y => (iblk m c 1 t : Vec Ideal S1x65x128x9 .f32) (ix4 0 0 (y 2) (y 3))) r
      = fun w j => rowsArray m c (ix4 ⟨t.val / 2, by have := points t; omega⟩ ⟨(65 * (t.val % 2) + r.val + 1) % 130, Nat.mod_lt _ (by decide)⟩ w j) := by
    funext w j
    unfold nextRow
    split_ifs with h
    · refine (rows_block m c t ⟨1 + r.val, by omega⟩ w j).trans (congrArg (fun R => rowsArray m c (ix4 _ R w j)) (Fin.ext ?_))
      show 65 * (t.val % 2) + (1 + r.val) = (65 * (t.val % 2) + r.val + 1) % 130
      omega
    · refine (next_block m c t w j).trans (congrArg (fun R => rowsArray m c (ix4 _ R w j)) (Fin.ext ?_))
      show 65 = (65 * (t.val % 2) + r.val + 1) % 130
      have := r.isLt
      omega
  have hM : (iblk m c 3 t : Vec Ideal S45x144 .f32) = insideArray m c := funext fun y => by
    rw [eq_ix2 y]; exact inside_block m c t _ _
  unfold interior fiveSums
  rw [hZ, hM]
  rw [← hY]

/-- What the output's block holds after point `t`. -/
theorem point_value (c : Dev nD) (t : Fin cfg0.N) (r : Fin 65) (C : Fin 130) (n : Fin 144) :
    (outsAt0 m c t.val t.isLt).1 (ix4 0 r C n)
      = whole (rowsArray m c) (edgeArray m c) (insideArray m c) (ringArray m c) ⟨t.val / 2, by have := points t; omega⟩
          ⟨65 * (t.val % 2) + r.val, by omega⟩ C n := by
  have hr := r.isLt
  have ht := points t
  by_cases h : t.val % 2 = 0
  · rw [outsAt0_A m c t h h (by omega) h (by omega)]
    dsimp only
    rw [block_A]
    unfold whole
    dsimp only
    by_cases h0 : r.val = 0
    · rw [if_pos h0, if_pos (by omega : 65 * (t.val % 2) + r.val = 0), ring_of_blocks]
    rw [if_neg h0, if_neg (by omega : ¬65 * (t.val % 2) + r.val = 0), if_neg (by omega : ¬65 * (t.val % 2) + r.val = 129)]
    by_cases h1 : C.val = 129
    · rw [if_pos h1, if_pos h1, ring_of_blocks, h]; simp only [Nat.mul_zero, Nat.zero_add]
    rw [if_neg h1, if_neg h1]
    by_cases h2 : C.val = 0
    · rw [if_pos h2, if_pos h2, ring_of_blocks, h]; simp only [Nat.mul_zero, Nat.zero_add]
    rw [if_neg h2, if_neg h2]
    exact interior_of_blocks m c t r (by omega) _ n
  · have h' : t.val % 2 = 1 := by omega
    rw [outsAt0_B m c t h h h' h h']
    dsimp only
    rw [block_B]
    have hp : t.val - 1 < cfg0.N := Nat.lt_of_le_of_lt (Nat.sub_le _ _) t.isLt
    have hs : ∀ (s : Fin 2) (pos : Fin 130), (outsAt0 m c (t.val - 1) hp).2 (ix3 s pos n)
        = sideOf (edgeArray m c) (ringArray m c) ⟨t.val / 2, by omega⟩ ⟨2 + s.val, by omega⟩ pos.val n := fun s pos => by
      have e : (t.val - 1) % 2 = 0 := by omega
      rw [outsAt0_A m c ⟨t.val - 1, hp⟩ e e (by dsimp only; omega) e (by dsimp only; omega)]
      dsimp only
      rw [scratch_A]
      refine ((ring_of_blocks m c ⟨t.val - 1, hp⟩ _ _ n).trans ?_)
      refine congrArg (fun b => sideOf (edgeArray m c) (ringArray m c) b _ pos.val n) (Fin.ext ?_)
      show (t.val - 1) / 2 = t.val / 2
      omega
    unfold whole
    dsimp only
    rw [if_neg (by omega : ¬ 65 * (t.val % 2) + r.val = 0)]
    by_cases h0 : r.val = 64
    · rw [if_pos h0, if_pos (by omega : 65 * (t.val % 2) + r.val = 129), ring_of_blocks]
    rw [if_neg h0, if_neg (by omega : ¬65 * (t.val % 2) + r.val = 129)]
    by_cases h1 : C.val = 129
    · rw [if_pos h1, if_pos h1, hs]
      simp only [h', Nat.mul_one]; rfl
    rw [if_neg h1, if_neg h1]
    by_cases h2 : C.val = 0
    · rw [if_pos h2, if_pos h2, hs]
      simp only [h', Nat.mul_one]; rfl
    rw [if_neg h2, if_neg h2]
    exact interior_of_blocks m c t r (by omega) _ n

/-- The result array. -/
def wholeArray (c : Dev nD) : Vec Ideal S16x130x130x144 .f32 := fun y =>
  whole (rowsArray m c) (edgeArray m c) (insideArray m c) (ringArray m c) (y 0) (y 1) (y 2) (y 3)

theorem flushed_eq (c : Dev nD) (t : Fin cfg0.N) (hf : (cfg0.win 5).flush t = true) :
    (dats m 0 c).flushed 5 t = ((cfg0.win 5).blk t).view.read (Elt Ideal) (wholeArray m c) := by
  show (cfg0.win 5).cut (grid0.coords t) ((dats m 0 c).after 5 t) = _
  rw [after0_5]
  funext y
  rw [View.read_apply]
  have hy : ∃ (r : Fin 65) (C : Fin 130) (n : Fin 144), y = (ix4 (n0 := 1) 0 r C n : S1x65x130x144.Idx) := ⟨y 1, y 2, y 3, by
    have h0 : (y 0).val < 1 := (y 0).isLt
    funext a
    fin_cases a
    · exact Fin.ext (by show (y 0).val = 0; omega)
    · rfl
    · rfl
    · rfl⟩
  obtain ⟨r, C, n, rfl⟩ := hy
  refine (point_value m c t r C n).trans ?_
  have h := index5 t
  have e : ((cfg0.win 5).blk t).view.emb (ix4 (n0 := 1) 0 r C n : S1x65x130x144.Idx)
      = (ix4 ⟨t.val / 2, by have := points t; omega⟩ ⟨65 * (t.val % 2) + r.val, by omega⟩ C n : S16x130x130x144.Idx) := by
    funext a
    refine Fin.ext ?_
    show win0_5.index t a * win0_5.size a + 1 * _ = _
    rw [h]
    fin_cases a <;> simp [ix4] <;> first | rfl | omega
  exact (congrArg (wholeArray m c) e).symm

theorem final_array (c : Dev nD) : (dats m 0 c).arrAt 5 cfg0.N = wholeArray m c :=
  (dats m 0 c).arrAt_eq_of_cover 5 (wholeArray m c) (flushed_eq m c) fun i => by
    have h0 : (i 0 : Nat) < 16 := (i 0).isLt
    have h1 : (i 1 : Nat) < 130 := (i 1).isLt
    have h2 : (i 2 : Nat) < 130 := (i 2).isLt
    have h3 : (i 3 : Nat) < 144 := (i 3).isLt
    have hN : cfg0.N = 32 := N_0
    let t : Fin cfg0.N := ⟨2 * (i 0 : Nat) + (i 1 : Nat) / 65, by omega⟩
    refine ⟨t, flush0_5 t, ?_⟩
    show i ∈ ((View.whole main_v328).slice (win0_5.rect t)).set
    rw [View.set_slice_whole, Rect.mem_set_unit]
    intro a
    have h := index5 t a
    show win0_5.index t a * win0_5.size a ≤ (i a : Nat) ∧ (i a : Nat) < win0_5.index t a * win0_5.size a + win0_5.xsize (grid0.coords t) a
    rw [h]
    have ht : t.val = 2 * (i 0 : Nat) + (i 1 : Nat) / 65 := rfl
    match a with
    | ⟨0, _⟩ => show (t.val / 2) * 1 ≤ (i 0 : Nat) ∧ (i 0 : Nat) < (t.val / 2) * 1 + 1; omega
    | ⟨1, _⟩ => show (t.val % 2) * 65 ≤ (i 1 : Nat) ∧ (i 1 : Nat) < (t.val % 2) * 65 + 65; omega
    | ⟨2, _⟩ => show 0 * 130 ≤ (i 2 : Nat) ∧ (i 2 : Nat) < 0 * 130 + 130; omega
    | ⟨3, _⟩ => show 0 * 144 ≤ (i 3 : Nat) ∧ (i 3 : Nat) < 0 * 144 + 144; omega

/-- The lines after the region reshape and transpose its array. -/
theorem tail_at (W : Valuation τ sig (Elt Ideal)) (b o : Fin 16) (R C : Fin 130) (p t : Fin 3) :
    (StableHlo.after (hostOps1 (F := Ideal)) W (Proc.devRef .tc main_v331) : Vec Ideal S16x16x130x130x3x3 .f32) (ix6 b o R C p t)
      = (W (Proc.devRef .tc main_v328) : Vec Ideal S16x130x130x144 .f32) (ix4 b R C ⟨o.val * 9 + (p.val * 3 + t.val), by omega⟩) := by
  after_reads_at

/-- The kernel's result, at an index. -/
theorem result_at (c : Dev nD) (b o : Fin 16) (R C : Fin 130) (p t : Fin 3) :
    (Pipeline.afterTail₀ cfgs (dats m) 0 (V0 m) [hostOps1] c main_v331 : Vec Ideal S16x16x130x130x3x3 .f32) (ix6 b o R C p t)
      = whole (rowsArray m c) (edgeArray m c) (insideArray m c) (ringArray m c) b R C ⟨o.val * 9 + (p.val * 3 + t.val), by omega⟩ := by
  unfold Pipeline.afterTail₀
  have hw := Pipeline.withArrays_arr_shared (cfgs 0).spec c (V0 m c) (fun w => (dats m 0 c).arrAt w (cfgs 0).N)
    ((dats m 0 c).arrAt_sharedIn sharedIn0 (V0 m c) (A_eq m c) (cfgs 0).N) 5
  have hv : (Pipeline.withArrays (cfgs 0).spec c (V0 m c) (fun w => (dats m 0 c).arrAt w (cfgs 0).N) (Proc.devRef .tc main_v328) : Vec Ideal S16x130x130x144 .f32)
      = wholeArray m c := hw.trans (final_array m c)
  exact (tail_at _ b o R C p t).trans (congrFun hv _)

end Cert.Cayley
-- ==== Proof.HostWeights.lean ====
/- The two weight matrices the kernel's host computes, read at an index as products of two entries of the array of Cayley
   matrices: the twelve ring matrices and the stacked interior matrix. -/
module

public import proofs.«01_k».proof.Proof.Gen.KernelIdeal.Launch
public import Idealize.ShloMosaic.Lib.StableHlo.ReadAt
public import Idealize.ShloMosaic.PureOps.Ideal

@[expose] public section

noncomputable section

namespace Cert.Cayley

open Cert.KernelIdeal Cert.KernelIdeal.Gen Idealize.ShloMosaic Idealize.ShloMosaic.TcCoe Idealize.SL.Sem Idealize.ShloMosaic.StableHlo

/-- The row and the column of the tap each of the twelve ring matrices belongs to. -/
def ringRow : Fin 12 → Fin 3 := ![0, 0, 0, 2, 2, 2, 0, 1, 2, 0, 1, 2]

/-- See `ringRow`. -/
def ringCol : Fin 12 → Fin 3 := ![0, 1, 2, 0, 1, 2, 0, 0, 0, 2, 2, 2]

/-- The matrix of `x ↦ G x Gᵀ` for the taps `(a, c)`: the channel in is `(i, q, s)`, the channel out `(o, p, t)`. -/
def weight (G : FVec Ideal S16x16x3x3x3x3 .f32) (a c : Fin 3) (k n : Fin 144) : EReal :=
  G (ix6 ⟨n.val / 9, by omega⟩ ⟨k.val / 9, by omega⟩ a c ⟨n.val / 3 % 3, by omega⟩ ⟨k.val / 3 % 3, by omega⟩)
    * G (ix6 ⟨n.val / 9, by omega⟩ ⟨k.val / 9, by omega⟩ a c ⟨n.val % 3, by omega⟩ ⟨k.val % 3, by omega⟩)

/-- `weight` of the last input channel. -/
def weightLast (G : FVec Ideal S16x16x3x3x3x3 .f32) (a c : Fin 3) (k : Fin 9) (n : Fin 144) : EReal :=
  G (ix6 ⟨n.val / 9, by omega⟩ 15 a c ⟨n.val / 3 % 3, by omega⟩ ⟨k.val / 3, by omega⟩)
    * G (ix6 ⟨n.val / 9, by omega⟩ 15 a c ⟨n.val % 3, by omega⟩ ⟨k.val % 3, by omega⟩)

set_option maxRecDepth 8192 in
set_option maxHeartbeats 4000000 in
/-- The twelve weight matrices of the ring. -/
theorem ring_weight (W : Valuation τ sig (Elt Ideal)) (j : Fin 12) (k n : Fin 144) :
    (after (List.drop 146 (hostOps0 (F := Ideal))) W (Proc.devRef .tc main_v302) : FVec Ideal S12x144x144 .f32) (ix3 j k n)
      = weight (W (Proc.devRef .tc main_v135)) (ringRow j) (ringCol j) k n := by
  fin_cases j <;> (
    simp only [Fin.reduceFinMk, Fin.zero_eta, Fin.isValue, Fin.mk_one]
    after_reads_at
    after_reads_at
    rfl)

set_option maxRecDepth 8192 in
set_option maxHeartbeats 4000000 in
/-- The interior matrix's rows 9 to 17: the tap (1, 0). -/
theorem int_weight_10 (W : Valuation τ sig (Elt Ideal)) (k : Fin 9) (n : Fin 144) :
    (after (List.drop 146 (hostOps0 (F := Ideal))) W (Proc.devRef .tc main_v181) : FVec Ideal S45x144 .f32) (ix2 ⟨9 + k.val, by omega⟩ n)
      = weightLast (W (Proc.devRef .tc main_v135)) 1 0 k n := by
  after_reads_at
  after_reads_at
  rfl

set_option maxRecDepth 8192 in
set_option maxHeartbeats 4000000 in
/-- The interior matrix's rows 18 to 26: the tap (0, 2). -/
theorem int_weight_02 (W : Valuation τ sig (Elt Ideal)) (k : Fin 9) (n : Fin 144) :
    (after (List.drop 146 (hostOps0 (F := Ideal))) W (Proc.devRef .tc main_v181) : FVec Ideal S45x144 .f32) (ix2 ⟨18 + k.val, by omega⟩ n)
      = weightLast (W (Proc.devRef .tc main_v135)) 0 2 k n := by
  after_reads_at
  rw [dif_neg (by omega), dif_neg (by omega), dif_pos (by omega)]
  simp only [show 18 + k.val - 9 - 9 = k.val by omega]
  after_reads_at
  rfl

set_option maxRecDepth 8192 in
set_option maxHeartbeats 4000000 in
/-- The interior matrix's rows 27 to 35: the tap (0, 1). -/
theorem int_weight_01 (W : Valuation τ sig (Elt Ideal)) (k : Fin 9) (n : Fin 144) :
    (after (List.drop 146 (hostOps0 (F := Ideal))) W (Proc.devRef .tc main_v181) : FVec Ideal S45x144 .f32) (ix2 ⟨27 + k.val, by omega⟩ n)
      = weightLast (W (Proc.devRef .tc main_v135)) 0 1 k n := by
  after_reads_at
  rw [dif_neg (by omega), dif_neg (by omega), dif_neg (by omega), dif_pos (by omega)]
  simp only [show 27 + k.val - 9 - 9 - 9 = k.val by omega]
  after_reads_at
  rfl

set_option maxRecDepth 8192 in
set_option maxHeartbeats 4000000 in
/-- The interior matrix's rows 36 to 44: the tap (0, 0). -/
theorem int_weight_00 (W : Valuation τ sig (Elt Ideal)) (k : Fin 9) (n : Fin 144) :
    (after (List.drop 146 (hostOps0 (F := Ideal))) W (Proc.devRef .tc main_v181) : FVec Ideal S45x144 .f32) (ix2 ⟨36 + k.val, by omega⟩ n)
      = weightLast (W (Proc.devRef .tc main_v135)) 0 0 k n := by
  after_reads_at
  rw [dif_neg (by omega), dif_neg (by omega), dif_neg (by omega), dif_neg (by omega)]
  simp only [show 36 + k.val - 9 - 9 - 9 - 9 = k.val by omega]
  after_reads_at
  rfl

/-- Copies of a 9×9 matrix side by side, read `c` columns into them: column `c % 9` of the matrix. -/
theorem copies_at (T : FVec Ideal S9x9 .f32) (j : S9x144.Idx) :
    ∀ (xs : List ((s : Shape) × (s.Idx → EReal))) (hs : ∀ s ∈ xs.map (·.1), s.FitsOff S9x144 1) (c : ℕ)
      (hc : c < (axisSizes S9x144 1 xs).sum), (∀ p ∈ xs, p = ⟨S9x9, T⟩) →
      concatenateAt S9x144 1 j xs hs c hc = T (ix2 (j 0) ⟨c % 9, Nat.mod_lt _ (by decide)⟩)
  | [], _, _, hc, _ => absurd hc (Nat.not_lt_zero _)
  | [p], hs, c, hc, hp => by
    obtain rfl := hp p List.mem_cons_self
    have h9 : c < 9 := by simpa [axisSizes] using hc
    rw [concatenateAt_singleton, Shape.Idx.norm_def]
    refine congrArg T (funext fun b => Fin.ext ?_)
    match b with
    | ⟨0, _⟩ => rfl
    | ⟨1, _⟩ => exact (Nat.mod_eq_of_lt h9).symm
  | p :: q :: xs, hs, c, hc, hp => by
    obtain rfl := hp p List.mem_cons_self
    rw [concatenateAt_cons]
    split
    · next h =>
      have h9 : c < 9 := h
      rw [Shape.Idx.norm_def]
      refine congrArg T (funext fun b => Fin.ext ?_)
      match b with
      | ⟨0, _⟩ => rfl
      | ⟨1, _⟩ => exact (Nat.mod_eq_of_lt h9).symm
    · next h =>
      have h9 : ¬ c < 9 := h
      rw [copies_at T j (q :: xs) _ _ _ (fun r hr => hp r (List.mem_cons_of_mem _ hr))]
      refine congrArg (fun k => T (ix2 (j 0) k)) (Fin.ext ?_)
      change (c - 9) % 9 = c % 9
      omega

/-- Sixteen copies of a 9×9 matrix side by side, read in the `o`-th copy. -/
theorem sixteen_copies (T : FVec Ideal S9x9 .f32) (k r : Fin 9) (o : Fin 16) :
    concatenate S9x144 1 [⟨S9x9, T⟩, ⟨S9x9, T⟩, ⟨S9x9, T⟩, ⟨S9x9, T⟩, ⟨S9x9, T⟩, ⟨S9x9, T⟩, ⟨S9x9, T⟩, ⟨S9x9, T⟩, ⟨S9x9, T⟩,
      ⟨S9x9, T⟩, ⟨S9x9, T⟩, ⟨S9x9, T⟩, ⟨S9x9, T⟩, ⟨S9x9, T⟩, ⟨S9x9, T⟩, ⟨S9x9, T⟩]
      concatenates_S9x9_S9x9_S9x9_S9x9_S9x9_S9x9_S9x9_S9x9_S9x9_S9x9_S9x9_S9x9_S9x9_S9x9_S9x9_S9x9_S9x144_d1
      (ix2 k ⟨9 * o.val + r.val, by omega⟩) = T (ix2 k r) := by
  rw [concatenate_apply, copies_at T]
  · refine congrArg (fun l => T (ix2 k l)) (Fin.ext ?_)
    change (9 * o.val + r.val) % 9 = r.val
    omega
  · intro p hp
    simpa using hp

/-- The identity matrix the interior product's first block is built from. -/
theorem eye9 (k r : Fin 9) :
    (uitofp .f32 (cmpi .eq (addi (iotaInDim S9x9 32 0) (broadcastInDim S9x9 ![] bcast_S_S9x9 (constantI S_ 32 0#32)))
      (iotaInDim S9x9 32 1)) : FVec Ideal S9x9 .f32) (ix2 k r) = (if k = r then 1 else 0 : EReal) := by
  pointwise
  have h : IntOp.cmpi CmpIPredicate.eq (IntOp.addi (BitVec.ofNat 32 k.val) 0#32) (BitVec.ofNat 32 r.val)
      = if k = r then 1#1 else 0#1 := by
    revert k r
    decide
  rw [h]
  by_cases hkr : k = r
  · rw [if_pos hkr, if_pos hkr]
    change (((1#1 : BitVec 1).toNat : ℝ) : EReal) = 1
    simp
  · rw [if_neg hkr, if_neg hkr]
    change (((0#1 : BitVec 1).toNat : ℝ) : EReal) = 0
    simp

set_option maxRecDepth 8192 in
set_option maxHeartbeats 4000000 in
/-- The interior matrix's first nine rows: sixteen identity matrices side by side. -/
theorem int_weight_eye_at (W : Valuation τ sig (Elt Ideal)) (k r : Fin 9) (o : Fin 16) :
    (after (List.drop 146 (hostOps0 (F := Ideal))) W (Proc.devRef .tc main_v181) : FVec Ideal S45x144 .f32)
        (ix2 ⟨k.val, by omega⟩ ⟨9 * o.val + r.val, by omega⟩)
      = (if k = r then 1 else 0 : EReal) := by
  after_reads_at
  after_reads_simp
  refine (sixteen_copies _ k r o).trans ?_
  refine Eq.trans ?_ (eye9 k r)
  change ((unary main_v142 main_v143 (fun v => (uitofp FTy.f32 v : FVec Ideal S9x9 .f32)) _ _).result (upto (List.drop 146 (hostOps0 (F := Ideal))) W 8)
    (Proc.devRef .tc main_v143) : FVec Ideal S9x9 .f32) (ix2 k r) = _
  after_reads_simp
end Cert.Cayley
-- ==== Proof.HostReads.lean ====
/- The arrays the kernel's host hands the pallas_call, read at an index from the arguments and the array of Cayley matrices. -/
module

public import proofs.«01_k».proof.Proof.HostWeights
public import proofs.«01_k».proof.Proof.Output

@[expose] public section

noncomputable section

namespace Cert.Cayley

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ)

/-- The image, as the kernel finds it. -/
abbrev image (c : Dev nD) : FVec Ideal S16x16x128x128x3x3 .f32 := m (c, Proc.devRef .tc main_arg0)

theorem int_zero : (FloatOps.sitofp (F := Ideal) .f32 (0#32 : BitVec 32)) = (0 : EReal) := by
  change (((0#32 : BitVec 32).toInt : ℝ) : EReal) = 0
  simp

theorem rows_at (c : Dev nD) (b : Fin 16) (R : Fin 130) (w : Fin 128) (j : Fin 9) :
    rowsArray m c (ix4 b R w j)
      = (if h : 1 ≤ R.val ∧ R.val < 129 then
          image m c (ix6 b 15 ⟨R.val - 1, by omega⟩ w ⟨j.val / 3, by omega⟩ ⟨j.val % 3, by omega⟩) else 0 : EReal) := by
  unfold rowsArray V V0
  after_reads_at
  split_ifs with h₁ h₂ h₂
  · rfl
  · exact absurd h₁ (by omega)
  · exact absurd h₂ (by omega)
  · exact int_zero

theorem edges_at (c : Dev nD) (b : Fin 16) (r : Fin 128) (k : Fin 144) :
    edgeArray m c (ix4 b 0 r k) = image m c (ix6 b ⟨k.val / 9, by omega⟩ 0 r ⟨k.val / 3 % 3, by omega⟩ ⟨k.val % 3, by omega⟩)
    ∧ edgeArray m c (ix4 b 1 r k) = image m c (ix6 b ⟨k.val / 9, by omega⟩ 127 r ⟨k.val / 3 % 3, by omega⟩ ⟨k.val % 3, by omega⟩)
    ∧ edgeArray m c (ix4 b 2 r k) = image m c (ix6 b ⟨k.val / 9, by omega⟩ r 0 ⟨k.val / 3 % 3, by omega⟩ ⟨k.val % 3, by omega⟩)
    ∧ edgeArray m c (ix4 b 3 r k) = image m c (ix6 b ⟨k.val / 9, by omega⟩ r 127 ⟨k.val / 3 % 3, by omega⟩ ⟨k.val % 3, by omega⟩) := by
  unfold edgeArray V V0
  refine ⟨?_, ?_, ?_, ?_⟩ <;> (after_reads_at; after_reads_at)

/-- The array of Cayley matrices the kernel's host computes. -/
def group (c : Dev nD) : FVec Ideal S16x16x3x3x3x3 .f32 :=
  after (List.take 146 (hostOps0 (F := Ideal))) (fun b => m (c, b)) (Proc.devRef .tc main_v135)

/-- The contents when the weights begin. -/
def entry (c : Dev nD) : Valuation τ sig (Elt Ideal) := after (List.take 146 (hostOps0 (F := Ideal))) (fun b => m (c, b))

theorem later (W : Valuation τ sig (Elt Ideal)) :
    after (hostOps0_1 (F := Ideal) ++ (hostOps0_2 (F := Ideal) ++ [])) W (Proc.devRef .tc main_v302) = W (Proc.devRef .tc main_v302)
    ∧ after (hostOps0_1 (F := Ideal) ++ (hostOps0_2 (F := Ideal) ++ [])) W (Proc.devRef .tc main_v181) = W (Proc.devRef .tc main_v181) := by
  constructor <;> after_reads_simp

theorem entry_split (c : Dev nD) : V0 m c
    = after (hostOps0_1 (F := Ideal) ++ (hostOps0_2 (F := Ideal) ++ [])) (after (List.drop 146 (hostOps0 (F := Ideal))) (entry m c)) := by
  unfold entry
  rw [← StableHlo.after_append, ← StableHlo.after_append, ← List.append_assoc, List.take_append_drop]
  rfl

theorem ring_at (c : Dev nD) (j : Fin 12) (k n : Fin 144) : ringArray m c (ix3 j k n) = weight (group m c) (ringRow j) (ringCol j) k n := by
  have h : ringArray m c = after (List.drop 146 (hostOps0 (F := Ideal))) (entry m c) (Proc.devRef .tc main_v302) :=
    (congrFun (entry_split m c) _).trans (later _).1
  rw [h]
  exact ring_weight (entry m c) j k n

theorem inside_eq (c : Dev nD) : insideArray m c = after (List.drop 146 (hostOps0 (F := Ideal))) (entry m c) (Proc.devRef .tc main_v181) :=
  (congrFun (entry_split m c) _).trans (later _).2

/-- The five blocks of the interior matrix. -/
theorem inside_at (c : Dev nD) (k : Fin 9) (n : Fin 144) :
    insideArray m c (ix2 ⟨k.val, by omega⟩ n) = (if k.val = n.val % 9 then 1 else 0 : EReal)
    ∧ insideArray m c (ix2 ⟨9 + k.val, by omega⟩ n) = weightLast (group m c) 1 0 k n
    ∧ insideArray m c (ix2 ⟨18 + k.val, by omega⟩ n) = weightLast (group m c) 0 2 k n
    ∧ insideArray m c (ix2 ⟨27 + k.val, by omega⟩ n) = weightLast (group m c) 0 1 k n
    ∧ insideArray m c (ix2 ⟨36 + k.val, by omega⟩ n) = weightLast (group m c) 0 0 k n := by
  rw [inside_eq]
  refine ⟨?_, int_weight_10 (entry m c) k n, int_weight_02 (entry m c) k n, int_weight_01 (entry m c) k n, int_weight_00 (entry m c) k n⟩
  have hn : n = ⟨9 * (⟨n.val / 9, by omega⟩ : Fin 16).val + (⟨n.val % 9, by omega⟩ : Fin 9).val, by dsimp only; omega⟩ :=
    Fin.ext (by dsimp only; omega)
  have h := int_weight_eye_at (entry m c) k ⟨n.val % 9, by omega⟩ ⟨n.val / 9, by omega⟩
  rw [← hn] at h
  refine h.trans ?_
  simp only [Fin.ext_iff]

end Cert.Cayley
-- ==== Proof.ScatterWindow.lean ====
module

public import proofs.«01_k».proof.Proof.Gen.ReferenceIdeal.Read
public import Idealize.ShloMosaic.Lib.Routing.OpsPair
public import Idealize.ShloMosaic.Lib.StableHlo.ReadAt
public import Idealize.ShloMosaic.PureOps.Ideal

@[expose] public section

/-! The reference adds each tap's product into a window of the result. Here: such an addition, and the final overwrite,
read at one element. -/

noncomputable section

namespace Cert.Cayley

open Cert.ReferenceIdeal Idealize.ShloMosaic Idealize.ShloMosaic.TcCoe Idealize.ShloMosaic.StableHlo

/-- A fold that acts at no position of its list. -/
theorem foldl_none {N : ℕ} {α : Type} (P : Fin N → Prop) [DecidablePred P] (f : α → α → α) (g : Fin N → α) (l : List (Fin N)) (a : α)
    (h : ∀ n ∈ l, ¬ P n) : l.foldl (fun a n => if P n then f a (g n) else a) a = a := by
  induction l generalizing a with
  | nil => rfl
  | cons n l ih =>
    rw [List.foldl_cons, if_neg (h n List.mem_cons_self)]
    exact ih a fun k hk => h k (List.mem_cons_of_mem _ hk)

/-- A fold that acts at one position of its list. -/
theorem foldl_once {N : ℕ} {α : Type} (P : Fin N → Prop) [DecidablePred P] (f : α → α → α) (g : Fin N → α) (l : List (Fin N)) (a : α)
    (n₀ : Fin N) (hl : l.Nodup) (hn : n₀ ∈ l) (h : ∀ n, P n ↔ n = n₀) :
    l.foldl (fun a n => if P n then f a (g n) else a) a = f a (g n₀) := by
  induction l generalizing a with
  | nil => exact absurd hn List.not_mem_nil
  | cons n l ih =>
    rw [List.foldl_cons]
    rw [List.nodup_cons] at hl
    by_cases e : n = n₀
    · subst e
      rw [if_pos ((h n).2 rfl)]
      exact foldl_none P f g l _ fun k hk hP => hl.1 ((h k).1 hP ▸ hk)
    · rw [if_neg fun hP => e ((h n).1 hP)]
      exact ih a hl.2 ((List.mem_cons.1 hn).resolve_left fun q => e q.symm)

/-- A scatter read at an element where exactly the update `k₀` lands. -/
theorem scatter_one {α : Type} {s si u : Shape} {w : Nat} (d : ScatterDims s si u) (f : α → α → α) (x0 : s.Idx → α) (idx : IVec si w)
    (upd : u.Idx → α) (ι : s.Idx) (k₀ : u.Idx) (h : ∀ k, d.resultIdx? k idx = some ι ↔ k = k₀) :
    Host.scatter d f x0 idx upd ι = f (x0 ι) (upd k₀) := by
  rw [Routing.scatter_at, foldl_once _ f (fun n => upd (u.rowMajor.symm n)) _ _ (u.rowMajor k₀) (List.nodup_finRange _) (List.mem_finRange _)
    (fun n => (h _).trans (Equiv.symm_apply_eq _)), Equiv.symm_apply_apply]

/-- A scatter read at an element where no update lands. -/
theorem scatter_zero {α : Type} {s si u : Shape} {w : Nat} (d : ScatterDims s si u) (f : α → α → α) (x0 : s.Idx → α) (idx : IVec si w)
    (upd : u.Idx → α) (ι : s.Idx) (h : ∀ k, d.resultIdx? k idx ≠ some ι) : Host.scatter d f x0 idx upd ι = x0 ι := by
  rw [Routing.scatter_at, foldl_none _ f (fun n => upd (u.rowMajor.symm n)) _ _ fun n _ => h _]

theorem window_lands (idx : IVec S2 32) (a c : ℕ) (ha : (idx (ix1 0)).toInt = a) (hc : (idx (ix1 1)).toInt = c)
    (k : S16x16x128x128x3x3.Idx) (b o : Fin 16) (R C : Fin 130) (p t : Fin 3) :
    ScatterDims.resultIdx? scatter_S16x16x130x130x3x3_S2_S16x16x128x128x3x3_012345_n_23_0 k idx = some (ix6 b o R C p t)
      ↔ ((k 0).val = b.val ∧ (k 1).val = o.val ∧ a + (k 2).val = R.val ∧ c + (k 3).val = C.val ∧ (k 4).val = p.val ∧ (k 5).val = t.val) := by
  rw [Routing.resultIdx?_eq_some]
  have s0 : ScatterDims.start scatter_S16x16x130x130x3x3_S2_S16x16x128x128x3x3_012345_n_23_0 k idx 0 = 0 := rfl
  have s1 : ScatterDims.start scatter_S16x16x130x130x3x3_S2_S16x16x128x128x3x3_012345_n_23_0 k idx 1 = 0 := rfl
  have s4 : ScatterDims.start scatter_S16x16x130x130x3x3_S2_S16x16x128x128x3x3_012345_n_23_0 k idx 4 = 0 := rfl
  have s5 : ScatterDims.start scatter_S16x16x130x130x3x3_S2_S16x16x128x128x3x3_012345_n_23_0 k idx 5 = 0 := rfl
  have s2 : ScatterDims.start scatter_S16x16x130x130x3x3_S2_S16x16x128x128x3x3_012345_n_23_0 k idx 2 = (idx (ix1 0)).toInt := by
    refine Eq.trans (b := (idx _).toInt) rfl (congrArg (fun i => (idx i).toInt) ?_)
    funext x; fin_cases x; rfl
  have s3 : ScatterDims.start scatter_S16x16x130x130x3x3_S2_S16x16x128x128x3x3_012345_n_23_0 k idx 3 = (idx (ix1 1)).toInt := by
    refine Eq.trans (b := (idx _).toInt) rfl (congrArg (fun i => (idx i).toInt) ?_)
    funext x; fin_cases x; rfl
  have w0 : ScatterDims.window scatter_S16x16x130x130x3x3_S2_S16x16x128x128x3x3_012345_n_23_0 k 0 = (k 0).val := rfl
  have w1 : ScatterDims.window scatter_S16x16x130x130x3x3_S2_S16x16x128x128x3x3_012345_n_23_0 k 1 = (k 1).val := rfl
  have w2 : ScatterDims.window scatter_S16x16x130x130x3x3_S2_S16x16x128x128x3x3_012345_n_23_0 k 2 = (k 2).val := rfl
  have w3 : ScatterDims.window scatter_S16x16x130x130x3x3_S2_S16x16x128x128x3x3_012345_n_23_0 k 3 = (k 3).val := rfl
  have w4 : ScatterDims.window scatter_S16x16x130x130x3x3_S2_S16x16x128x128x3x3_012345_n_23_0 k 4 = (k 4).val := rfl
  have w5 : ScatterDims.window scatter_S16x16x130x130x3x3_S2_S16x16x128x128x3x3_012345_n_23_0 k 5 = (k 5).val := rfl
  constructor
  · intro h
    have h0 : (_ : ℤ) = (b.val : ℤ) := h 0
    have h1 : (_ : ℤ) = (o.val : ℤ) := h 1
    have h2 : (_ : ℤ) = (R.val : ℤ) := h 2
    have h3 : (_ : ℤ) = (C.val : ℤ) := h 3
    have h4 : (_ : ℤ) = (p.val : ℤ) := h 4
    have h5 : (_ : ℤ) = (t.val : ℤ) := h 5
    rw [s0, w0] at h0; rw [s1, w1] at h1; rw [s2, w2, ha] at h2; rw [s3, w3, hc] at h3; rw [s4, w4] at h4; rw [s5, w5] at h5
    omega
  · rintro ⟨h0, h1, h2, h3, h4, h5⟩ x
    fin_cases x
    · show (_ : ℤ) = (b.val : ℤ); erw [s0, w0]; omega
    · show (_ : ℤ) = (o.val : ℤ); erw [s1, w1]; omega
    · show (_ : ℤ) = (R.val : ℤ); erw [s2, w2, ha]; omega
    · show (_ : ℤ) = (C.val : ℤ); erw [s3, w3, hc]; omega
    · show (_ : ℤ) = (p.val : ℤ); erw [s4, w4]; omega
    · show (_ : ℤ) = (t.val : ℤ); erw [s5, w5]; omega

/-- The scatter of a whole window read at an element: inside the window the body's result, outside the operand. -/
theorem scatter_window (f : EReal → EReal → EReal) (x0 : FVec Ideal S16x16x130x130x3x3 .f32) (idx : IVec S2 32)
    (upd : FVec Ideal S16x16x128x128x3x3 .f32) (a c : ℕ) (ha : (idx (ix1 0)).toInt = a) (hc : (idx (ix1 1)).toInt = c)
    (b o : Fin 16) (R C : Fin 130) (p t : Fin 3) :
    Host.scatter scatter_S16x16x130x130x3x3_S2_S16x16x128x128x3x3_012345_n_23_0 f x0 idx upd (ix6 b o R C p t)
      = if h : (a ≤ R.val ∧ R.val < a + 128) ∧ (c ≤ C.val ∧ C.val < c + 128) then
          f (x0 (ix6 b o R C p t)) (upd (ix6 b o ⟨R.val - a, by omega⟩ ⟨C.val - c, by omega⟩ p t))
        else x0 (ix6 b o R C p t) := by
  split
  · next h =>
    refine scatter_one _ f x0 idx upd _ _ fun k => (window_lands idx a c ha hc k b o R C p t).trans ⟨?_, ?_⟩
    · rintro ⟨h0, h1, h2, h3, h4, h5⟩
      funext x
      fin_cases x
      · exact Fin.ext h0
      · exact Fin.ext h1
      · exact Fin.ext (show (k 2).val = R.val - a by omega)
      · exact Fin.ext (show (k 3).val = C.val - c by omega)
      · exact Fin.ext h4
      · exact Fin.ext h5
    · rintro rfl
      exact ⟨rfl, rfl, (show a + (R.val - a) = R.val by omega), (show c + (C.val - c) = C.val by omega), rfl, rfl⟩
  · next h =>
    refine scatter_zero _ f x0 idx upd _ fun k hk => h ?_
    obtain ⟨_, _, h2, h3, _, _⟩ := (window_lands idx a c ha hc k b o R C p t).1 hk
    have k2 : (k 2).val < 128 := (k 2).isLt
    have k3 : (k 3).val < 128 := (k 3).isLt
    omega

end Cert.Cayley
-- ==== Proof.CayleyMatrix.lean ====
/- The Cayley matrix of three parameters, in plain formulas, and that every entry of it is a real number. -/
module

public import proofs.«01_k».proof.Proof.Reals

@[expose] public section

noncomputable section

namespace Cert.Cayley

open Idealize.ShloMosaic

/-- The identity matrix. -/
def eye (p q : Fin 3) : EReal := if p = q then 1 else 0

/-- The skew-symmetric matrix of three parameters. -/
def skew (u : Fin 3 → EReal) : Fin 3 → Fin 3 → EReal := ![![0, u 0, u 1], ![-u 0, 0, u 2], ![-u 1, -u 2, 0]]

/-- What is added to the identity: the skew matrix, at the centre the identity. -/
def upper (centre : Prop) [Decidable centre] (u : Fin 3 → EReal) (p q : Fin 3) : EReal := if centre then eye p q else skew u p q

/-- What is inverted: the identity minus the skew matrix, at the centre the identity. -/
def lower (centre : Prop) [Decidable centre] (u : Fin 3 → EReal) (p q : Fin 3) : EReal :=
  if centre then eye p q else eye p q - skew u p q

/-- The determinant of a 3×3 matrix. -/
def determinant (D : Fin 3 → Fin 3 → EReal) : EReal :=
  (D 0 0 * (D 1 1 * D 2 2 - D 1 2 * D 2 1) - D 0 1 * (D 1 0 * D 2 2 - D 1 2 * D 2 0)) + D 0 2 * (D 1 0 * D 2 1 - D 1 1 * D 2 0)

/-- The adjugate of a 3×3 matrix. -/
def adjugate (D : Fin 3 → Fin 3 → EReal) : Fin 3 → Fin 3 → EReal :=
  ![![D 1 1 * D 2 2 - D 1 2 * D 2 1, D 0 2 * D 2 1 - D 0 1 * D 2 2, D 0 1 * D 1 2 - D 0 2 * D 1 1],
    ![D 1 2 * D 2 0 - D 1 0 * D 2 2, D 0 0 * D 2 2 - D 0 2 * D 2 0, D 0 2 * D 1 0 - D 0 0 * D 1 2],
    ![D 1 0 * D 2 1 - D 1 1 * D 2 0, D 0 1 * D 2 0 - D 0 0 * D 2 1, D 0 0 * D 1 1 - D 0 1 * D 1 0]]

/-- The small number added to the determinant. -/
def small : EReal := FloatOps.ofBits (F := Ideal) .f32 0x33D6BF95#32

/-- The Cayley matrix. -/
def cayley (centre : Prop) [Decidable centre] (u : Fin 3 → EReal) (p q : Fin 3) : EReal :=
  ∑ k, Ideal.div (adjugate (lower centre u) p k) (determinant (lower centre u) + small) * (eye k q + upper centre u k q)

/-- The identity matrix as compared position numbers. -/
theorem eye_word (p q : Fin 3) :
    FloatOps.uitofp (F := Ideal) FTy.f32 (IntOp.cmpi CmpIPredicate.eq (IntOp.addi (BitVec.ofNat 32 p.val) 0#32) (BitVec.ofNat 32 q.val)) = eye p q := by
  have h : IntOp.cmpi CmpIPredicate.eq (IntOp.addi (BitVec.ofNat 32 p.val) 0#32) (BitVec.ofNat 32 q.val) = if p = q then 1#1 else 0#1 := by
    revert p q
    decide
  rw [h]
  unfold eye
  by_cases hkr : p = q
  · rw [if_pos hkr, if_pos hkr]
    change (((1#1 : BitVec 1).toNat : ℝ) : EReal) = 1
    simp
  · rw [if_neg hkr, if_neg hkr]
    change (((0#1 : BitVec 1).toNat : ℝ) : EReal) = 0
    simp

theorem small_real : ∃ r : ℝ, 0 ≤ r ∧ small = (r : EReal) := by
  refine ⟨14073749 * (2 : ℝ) ^ (-47 : ℤ), by positivity, ?_⟩
  unfold small
  rw [show (FloatOps.ofBits (F := Ideal) .f32 0x33D6BF95#32) = Ideal.ofBits .f32 0x33D6BF95#32 from rfl]
  simp [Ideal.ofBits, Ideal.ieee, -EReal.coe_mul]

theorem isReal_left {x y : EReal} (h : IsReal (x + y)) : IsReal x := by
  rw [isReal_iff] at *
  induction x <;> induction y <;> simp_all

theorem isReal_right {x y : EReal} (h : IsReal (x + y)) : IsReal y := isReal_left (x := y) (y := x) (by rwa [add_comm])

theorem isReal_of_neg {x : EReal} (h : IsReal (-x)) : IsReal x := by simpa using h.neg

theorem isReal_of_sq {x : EReal} (h : IsReal (x * x)) : IsReal x := by
  rw [isReal_iff] at *
  induction x <;> simp_all

/-- An infinite number times itself plus a real number is infinite. -/
theorem isReal_of_mul_self_add {a y : EReal} (h : IsReal (a * (a + y))) (hy : IsReal y) : IsReal a := by
  obtain ⟨r, rfl⟩ := hy
  rw [isReal_iff] at *
  induction a <;> simp_all

/-- An infinite number times itself plus anything is infinite. -/
theorem isReal_of_mul_add {a c b : EReal} (h : IsReal (a * (a + c * b))) (hc : IsReal c) : IsReal a := by
  by_cases hb : IsReal b
  · exact isReal_of_mul_self_add h (hc.mul hb)
  · by_contra ha
    have hy : c * b = 0 ∨ c * b = ⊤ ∨ c * b = ⊥ := by
      obtain ⟨r, rfl⟩ := hc
      rw [isReal_iff] at hb
      rcases lt_trichotomy r 0 with hr | hr | hr
      · induction b <;> simp_all [EReal.coe_mul_top_of_neg, EReal.coe_mul_bot_of_neg]
      · subst hr; simp
      · induction b <;> simp_all [EReal.coe_mul_top_of_pos, EReal.coe_mul_bot_of_pos]
    rw [isReal_iff] at *
    rcases hy with hy | hy | hy <;> rw [hy] at h <;> induction a <;> simp_all

theorem eye_real (p q : Fin 3) : IsReal (eye p q) := by
  unfold eye
  split
  · exact isReal_one
  · exact isReal_zero

theorem skew_real {u : Fin 3 → EReal} (h : ∀ r, IsReal (u r)) (p q : Fin 3) : IsReal (skew u p q) := by
  fin_cases p <;> fin_cases q <;> simp [skew, isReal_zero, h, IsReal.neg]

theorem adjugate_real {D : Fin 3 → Fin 3 → EReal} (h : ∀ p q, IsReal (D p q)) (p q : Fin 3) : IsReal (adjugate D p q) := by
  fin_cases p <;> fin_cases q <;> exact ((h _ _).mul (h _ _)).sub ((h _ _).mul (h _ _))

theorem determinant_eye : determinant eye = 1 := by
  simp [determinant, eye]

theorem determinant_skew (u : Fin 3 → EReal) : determinant (fun p q => eye p q - skew u p q)
    = ((1 + u 2 * u 2) + u 0 * (u 0 + u 2 * u 1)) + -u 1 * (-u 1 + u 0 * u 2) := by
  simp [determinant, eye, skew, sub_eq_add_neg, add_comm (-u 1)]

/-- The determinant plus the small number is real only for real parameters. -/
theorem parameters_real {u : Fin 3 → EReal} (h : IsReal (determinant (fun p q => eye p q - skew u p q) + small)) (r : Fin 3) : IsReal (u r) := by
  have hd := isReal_left h
  rw [determinant_skew] at hd
  have h2 : IsReal (u 2) := isReal_of_sq (isReal_right (isReal_left (isReal_left hd)))
  have h0 : IsReal (u 0) := isReal_of_mul_add (isReal_right (isReal_left hd)) h2
  have h1 : IsReal (u 1) := isReal_of_neg (isReal_of_mul_self_add (isReal_right hd) (h0.mul h2))
  fin_cases r
  · exact h0
  · exact h1
  · exact h2

theorem quotient_real {x y : EReal} (hx : IsReal x) {d : ℝ} (hy : y = (d : EReal)) (hd : d ≠ 0) : IsReal (Ideal.div x y) := by
  rw [hy, Ideal.div_coe hd]
  exact hx.mul (isReal_coe _)

theorem quotient_infinite (x : EReal) {y : EReal} (hy : ¬ IsReal y) : Ideal.div x y = 0 := by
  have h : y = ⊤ ∨ y = ⊥ := by
    by_contra h
    exact hy (isReal_iff.2 ⟨fun e => h (.inl e), fun e => h (.inr e)⟩)
  rcases h with rfl | rfl <;> simp [Ideal.div]

/-- Every entry of a Cayley matrix is a real number, whatever the parameters. -/
theorem cayley_real (centre : Prop) [Decidable centre] (u : Fin 3 → EReal) (p q : Fin 3) : IsReal (cayley centre u p q) := by
  obtain ⟨e, he, hs⟩ := small_real
  refine isReal_sum _ _ fun k => ?_
  by_cases hc : centre
  · have hl : lower centre u = eye := by funext p q; exact if_pos hc
    have hu : upper centre u k q = eye k q := if_pos hc
    rw [hl, hu]
    refine (quotient_real (adjugate_real eye_real p k) (d := 1 + e) ?_ (by positivity)).mul ((eye_real k q).add (eye_real k q))
    rw [determinant_eye, hs]
    rfl
  · have hl : lower centre u = fun p q => eye p q - skew u p q := by funext p q; exact if_neg hc
    have hu : upper centre u k q = skew u k q := if_neg hc
    rw [hl, hu]
    by_cases h : IsReal (determinant (fun p q => eye p q - skew u p q) + small)
    · have hr := parameters_real h
      refine IsReal.mul ?_ ((eye_real k q).add (skew_real hr k q))
      obtain ⟨a, ha⟩ := hr 0
      obtain ⟨b, hb⟩ := hr 1
      obtain ⟨c, hc⟩ := hr 2
      refine quotient_real (adjugate_real (fun p q => (eye_real p q).sub (skew_real hr p q)) p k) (d := 1 + c * c + a * (a + c * b) + -b * (-b + a * c) + e) ?_ ?_
      · rw [determinant_skew, ha, hb, hc, hs]
        norm_cast
      · nlinarith [mul_self_nonneg a, mul_self_nonneg b, mul_self_nonneg c]
    · rw [quotient_infinite _ h, zero_mul]
      exact isReal_zero

end Cert.Cayley
-- ==== Proof.KernelGroup.lean ====
/- The kernel's array of Cayley matrices: the host's first operations, read at an index. -/
module

public import proofs.«01_k».proof.Proof.HostReads
public import proofs.«01_k».proof.Proof.ScatterWindow
public import proofs.«01_k».proof.Proof.CayleyMatrix

@[expose] public section

noncomputable section

namespace Cert.Cayley

open Cert.KernelIdeal Cert.KernelIdeal.Gen Idealize.ShloMosaic Idealize.ShloMosaic.TcCoe Idealize.SL.Sem Idealize.ShloMosaic.StableHlo

variable (W : Valuation τ sig (Elt Ideal))

/-- The operations up to the gather of the parameters. -/
def opsA : List (HloOp τ sig (Elt Ideal)) := List.take 17 (hostOps0 (F := Ideal))

/-- The operations of the skew matrices. -/
def opsB : List (HloOp τ sig (Elt Ideal)) := List.take 27 (List.drop 17 (hostOps0 (F := Ideal)))

/-- The operations of the two matrices of each tap. -/
def opsC : List (HloOp τ sig (Elt Ideal)) := List.take 17 (List.drop 44 (hostOps0 (F := Ideal)))

/-- The operations of the entries. -/
def opsD : List (HloOp τ sig (Elt Ideal)) := List.take 18 (List.drop 61 (hostOps0 (F := Ideal)))

/-- The operations of the determinant and the adjugate. -/
def opsE : List (HloOp τ sig (Elt Ideal)) := List.take 57 (List.drop 79 (hostOps0 (F := Ideal)))

/-- The operations of the quotient and the product. -/
def opsF : List (HloOp τ sig (Elt Ideal)) := List.take 10 (List.drop 136 (hostOps0 (F := Ideal)))

theorem ops_split : List.take 146 (hostOps0 (F := Ideal)) = opsA ++ (opsB ++ (opsC ++ (opsD ++ (opsE ++ opsF)))) := rfl

theorem ker_eye_at (p q : Fin 3) : (after opsA W (Proc.devRef .tc main_v5) : FVec Ideal S3x3 .f32) (ix2 p q) = eye p q := by
  refine Eq.trans ?_ (eye_word p q)
  unfold opsA
  after_reads_at

/-- The row the kernel takes for tap `(a, c)`. -/
theorem ker_row_at (a c : Fin 3) :
    min ((after opsA W (Proc.devRef .tc main_v11) : IVec S3x3x1 32) (ix3 a c 0)).toInt.toNat 7
      = if a.val * 3 + c.val = 8 then 4 else a.val * 3 + c.val := by
  unfold opsA
  after_reads_at
  fin_cases a <;> fin_cases c <;> rfl

theorem ker_gathered : (after opsA W (Proc.devRef .tc main_v12) : FVec Ideal S16x16x3x3x3 .f32)
    = Host.gather gather_S16x16x8x3_S3x3x1_S16x16x3x3x3_014_2_n_n_2_2_161613 (W (Proc.devRef .tc main_arg1) : FVec Ideal S16x16x8x3 .f32)
        (after opsA W (Proc.devRef .tc main_v11) : IVec S3x3x1 32) := by
  unfold opsA
  after_reads_simp

theorem ker_params_at (o i : Fin 16) (a c r : Fin 3) :
    (after opsA W (Proc.devRef .tc main_v12) : FVec Ideal S16x16x3x3x3 .f32) (ix5 o i a c r)
      = (W (Proc.devRef .tc main_arg1) : FVec Ideal S16x16x8x3 .f32)
          (ix4 o i ⟨if a.val * 3 + c.val = 8 then 4 else a.val * 3 + c.val, by split <;> omega⟩ r) := by
  rw [ker_gathered]
  refine congrArg (W (Proc.devRef .tc main_arg1) : FVec Ideal S16x16x8x3 .f32) (funext fun x => Fin.ext ?_)
  have h := ker_row_at W a c
  generalize (after opsA W (Proc.devRef .tc main_v11) : IVec S3x3x1 32) = idx at *
  have s2 : GatherDims.start gather_S16x16x8x3_S3x3x1_S16x16x3x3x3_014_2_n_n_2_2_161613 (ix5 o i a c r) idx 2 = min (idx (ix3 a c 0)).toInt.toNat 7 := by
    refine Eq.trans (b := min (idx _).toInt.toNat 7) rfl (congrArg (fun i => min (idx i).toInt.toNat 7) ?_)
    funext x; fin_cases x <;> rfl
  fin_cases x
  · exact (Nat.zero_add _).trans rfl
  · exact (Nat.zero_add _).trans rfl
  · exact s2.trans h
  · exact (Nat.zero_add _).trans rfl

/-- The kernel's skew matrices. -/
theorem ker_skew_at (o i : Fin 16) (a c p q : Fin 3) :
    (after opsB W (Proc.devRef .tc main_v38) : FVec Ideal S16x16x3x3x3x3 .f32) (ix6 o i a c p q)
      = skew (fun r => (W (Proc.devRef .tc main_v12) : FVec Ideal S16x16x3x3x3 .f32) (ix5 o i a c r)) p q := by
  have hz : FloatOps.ofBits (F := Ideal) FTy.f32 0#32 = (0 : EReal) := Ideal.ofBits_zero_f32
  unfold opsB
  fin_cases p <;> fin_cases q <;> (after_reads_at; after_reads_at; after_reads_at) <;> first | exact hz | rfl

theorem ker_eye_kept : after opsB W (Proc.devRef .tc main_v5) = W (Proc.devRef .tc main_v5)
    ∧ after opsC W (Proc.devRef .tc main_v5) = W (Proc.devRef .tc main_v5)
    ∧ after opsD W (Proc.devRef .tc main_v5) = W (Proc.devRef .tc main_v5)
    ∧ after opsE W (Proc.devRef .tc main_v5) = W (Proc.devRef .tc main_v5)
    ∧ after opsD W (Proc.devRef .tc main_v43) = W (Proc.devRef .tc main_v43)
    ∧ after opsE W (Proc.devRef .tc main_v43) = W (Proc.devRef .tc main_v43) := by
  unfold opsB opsC opsD opsE
  refine ⟨?_, ?_, ?_, ?_, ?_, ?_⟩ <;> after_reads_simp

theorem middle_lands (idx : IVec S2 32) (h0 : (idx (ix1 0)).toInt = 1) (h1 : (idx (ix1 1)).toInt = 1) (k : S16x16x3x3.Idx)
    (o i : Fin 16) (a c p q : Fin 3) :
    ScatterDims.resultIdx? scatter_S16x16x3x3x3x3_S2_S16x16x3x3_0123_23_23_0 k idx = some (ix6 o i a c p q)
      ↔ ((k 0).val = o.val ∧ (k 1).val = i.val ∧ 1 = a.val ∧ 1 = c.val ∧ (k 2).val = p.val ∧ (k 3).val = q.val) := by
  rw [Routing.resultIdx?_eq_some]
  have s2 : ScatterDims.start scatter_S16x16x3x3x3x3_S2_S16x16x3x3_0123_23_23_0 k idx 2 = (idx (ix1 0)).toInt := by
    refine Eq.trans (b := (idx _).toInt) rfl (congrArg (fun i => (idx i).toInt) ?_)
    funext x; fin_cases x; rfl
  have s3 : ScatterDims.start scatter_S16x16x3x3x3x3_S2_S16x16x3x3_0123_23_23_0 k idx 3 = (idx (ix1 1)).toInt := by
    refine Eq.trans (b := (idx _).toInt) rfl (congrArg (fun i => (idx i).toInt) ?_)
    funext x; fin_cases x; rfl
  have z0 : ScatterDims.start scatter_S16x16x3x3x3x3_S2_S16x16x3x3_0123_23_23_0 k idx 0 = 0 := rfl
  have z1 : ScatterDims.start scatter_S16x16x3x3x3x3_S2_S16x16x3x3_0123_23_23_0 k idx 1 = 0 := rfl
  have z4 : ScatterDims.start scatter_S16x16x3x3x3x3_S2_S16x16x3x3_0123_23_23_0 k idx 4 = 0 := rfl
  have z5 : ScatterDims.start scatter_S16x16x3x3x3x3_S2_S16x16x3x3_0123_23_23_0 k idx 5 = 0 := rfl
  have w0 : ScatterDims.window scatter_S16x16x3x3x3x3_S2_S16x16x3x3_0123_23_23_0 k 0 = (k 0).val := rfl
  have w1 : ScatterDims.window scatter_S16x16x3x3x3x3_S2_S16x16x3x3_0123_23_23_0 k 1 = (k 1).val := rfl
  have w2 : ScatterDims.window scatter_S16x16x3x3x3x3_S2_S16x16x3x3_0123_23_23_0 k 2 = 0 := rfl
  have w3 : ScatterDims.window scatter_S16x16x3x3x3x3_S2_S16x16x3x3_0123_23_23_0 k 3 = 0 := rfl
  have w4 : ScatterDims.window scatter_S16x16x3x3x3x3_S2_S16x16x3x3_0123_23_23_0 k 4 = (k 2).val := rfl
  have w5 : ScatterDims.window scatter_S16x16x3x3x3x3_S2_S16x16x3x3_0123_23_23_0 k 5 = (k 3).val := rfl
  constructor
  · intro h
    have e0 : (_ : ℤ) = (o.val : ℤ) := h 0
    have e1 : (_ : ℤ) = (i.val : ℤ) := h 1
    have e2 : (_ : ℤ) = (a.val : ℤ) := h 2
    have e3 : (_ : ℤ) = (c.val : ℤ) := h 3
    have e4 : (_ : ℤ) = (p.val : ℤ) := h 4
    have e5 : (_ : ℤ) = (q.val : ℤ) := h 5
    rw [z0, w0] at e0; rw [z1, w1] at e1; rw [s2, w2, h0] at e2; rw [s3, w3, h1] at e3; rw [z4, w4] at e4; rw [z5, w5] at e5
    omega
  · rintro ⟨e0, e1, e2, e3, e4, e5⟩ x
    fin_cases x
    · show (_ : ℤ) = (o.val : ℤ); erw [z0, w0]; omega
    · show (_ : ℤ) = (i.val : ℤ); erw [z1, w1]; omega
    · show (_ : ℤ) = (a.val : ℤ); erw [s2, w2, h0]; omega
    · show (_ : ℤ) = (c.val : ℤ); erw [s3, w3, h1]; omega
    · show (_ : ℤ) = (p.val : ℤ); erw [z4, w4]; omega
    · show (_ : ℤ) = (q.val : ℤ); erw [z5, w5]; omega

/-- A matrix set at the middle tap. -/
theorem middle_at (x : FVec Ideal S16x16x3x3x3x3 .f32) (idx : IVec S2 32) (h0 : (idx (ix1 0)).toInt = 1) (h1 : (idx (ix1 1)).toInt = 1)
    (upd : FVec Ideal S16x16x3x3 .f32) (o i : Fin 16) (a c p q : Fin 3) :
    Host.scatter scatter_S16x16x3x3x3x3_S2_S16x16x3x3_0123_23_23_0 (fun _ b => b) x idx upd (ix6 o i a c p q)
      = if a.val * 3 + c.val = 4 then upd (ix4 o i p q) else x (ix6 o i a c p q) := by
  split
  · next h =>
    refine scatter_one _ (fun _ b => b) x idx upd _ _ fun k => (middle_lands idx h0 h1 k o i a c p q).trans ⟨?_, ?_⟩
    · rintro ⟨e0, e1, e2, e3, e4, e5⟩
      funext x
      fin_cases x
      · exact Fin.ext e0
      · exact Fin.ext e1
      · exact Fin.ext e4
      · exact Fin.ext e5
    · rintro rfl
      exact ⟨rfl, rfl, by omega, by omega, rfl, rfl⟩
  · next h =>
    refine scatter_zero _ (fun _ b => b) x idx upd _ fun k hk => h ?_
    obtain ⟨_, _, ha, hc, _, _⟩ := (middle_lands idx h0 h1 k o i a c p q).1 hk
    omega

theorem ker_set : (after opsC W (Proc.devRef .tc main_v43) : FVec Ideal S16x16x3x3x3x3 .f32)
      = Host.scatter scatter_S16x16x3x3x3x3_S2_S16x16x3x3_0123_23_23_0 (fun _ b => b) (W (Proc.devRef .tc main_v38) : FVec Ideal S16x16x3x3x3x3 .f32)
          (after opsC W (Proc.devRef .tc main_v41) : IVec S2 32) (after opsC W (Proc.devRef .tc main_v42) : FVec Ideal S16x16x3x3 .f32)
    ∧ (after opsC W (Proc.devRef .tc main_v51) : FVec Ideal S16x16x3x3x3x3 .f32)
      = Host.scatter scatter_S16x16x3x3x3x3_S2_S16x16x3x3_0123_23_23_0 (fun _ b => b) (after opsC W (Proc.devRef .tc main_v46) : FVec Ideal S16x16x3x3x3x3 .f32)
          (after opsC W (Proc.devRef .tc main_v49) : IVec S2 32) (after opsC W (Proc.devRef .tc main_v50) : FVec Ideal S16x16x3x3 .f32) := by
  unfold opsC
  constructor <;> (after_reads_simp; rfl)

/-- The identity matrix among the kernel's arrays. -/
abbrev eyeOf : FVec Ideal S3x3 .f32 := W (Proc.devRef .tc main_v5)

/-- The skew matrices among the kernel's arrays. -/
abbrev skewOf : FVec Ideal S16x16x3x3x3x3 .f32 := W (Proc.devRef .tc main_v38)

/-- The matrices added to the identity among the kernel's arrays. -/
abbrev upperOf : FVec Ideal S16x16x3x3x3x3 .f32 := W (Proc.devRef .tc main_v43)

/-- The adjugates among the kernel's arrays. -/
abbrev adjugateOf : FVec Ideal S16x16x3x3x3x3 .f32 := W (Proc.devRef .tc main_v126)

/-- The determinants among the kernel's arrays. -/
abbrev determinantOf : FVec Ideal S16x16x3x3 .f32 := W (Proc.devRef .tc main_v83)

theorem ker_set_reads (o i : Fin 16) (a c p q : Fin 3) :
    (after opsC W (Proc.devRef .tc main_v42) : FVec Ideal S16x16x3x3 .f32) (ix4 o i p q) = (W (Proc.devRef .tc main_v5) : FVec Ideal S3x3 .f32) (ix2 p q)
    ∧ (after opsC W (Proc.devRef .tc main_v50) : FVec Ideal S16x16x3x3 .f32) (ix4 o i p q) = (W (Proc.devRef .tc main_v5) : FVec Ideal S3x3 .f32) (ix2 p q)
    ∧ (after opsC W (Proc.devRef .tc main_v46) : FVec Ideal S16x16x3x3x3x3 .f32) (ix6 o i a c p q)
      = (eyeOf W (ix2 p q) - skewOf W (ix6 o i a c p q) : EReal) := by
  unfold opsC
  refine ⟨?_, ?_, ?_⟩ <;> after_reads_at
  rfl

theorem ker_set_places : ((after opsC W (Proc.devRef .tc main_v41) : IVec S2 32) (ix1 0)).toInt = 1
    ∧ ((after opsC W (Proc.devRef .tc main_v41) : IVec S2 32) (ix1 1)).toInt = 1
    ∧ ((after opsC W (Proc.devRef .tc main_v49) : IVec S2 32) (ix1 0)).toInt = 1
    ∧ ((after opsC W (Proc.devRef .tc main_v49) : IVec S2 32) (ix1 1)).toInt = 1 := by
  unfold opsC
  refine ⟨?_, ?_, ?_, ?_⟩ <;> (after_reads_at; rfl)

/-- The matrices added to the identity, and those inverted. -/
theorem ker_upper_lower (u : Fin 3 → EReal) (o i : Fin 16) (a c p q : Fin 3)
    (he : (W (Proc.devRef .tc main_v5) : FVec Ideal S3x3 .f32) (ix2 p q) = eye p q)
    (hs : (W (Proc.devRef .tc main_v38) : FVec Ideal S16x16x3x3x3x3 .f32) (ix6 o i a c p q) = skew u p q) :
    (after opsC W (Proc.devRef .tc main_v43) : FVec Ideal S16x16x3x3x3x3 .f32) (ix6 o i a c p q) = upper (a.val * 3 + c.val = 4) u p q
    ∧ (after opsC W (Proc.devRef .tc main_v51) : FVec Ideal S16x16x3x3x3x3 .f32) (ix6 o i a c p q) = lower (a.val * 3 + c.val = 4) u p q := by
  obtain ⟨r1, r2, r3⟩ := ker_set_reads W o i a c p q
  obtain ⟨p1, p2, p3, p4⟩ := ker_set_places W
  constructor
  · refine (congrFun (ker_set W).1 _).trans ((middle_at _ _ p1 p2 _ o i a c p q).trans ?_)
    unfold upper
    rw [r1, he, hs]
  · refine (congrFun (ker_set W).2 _).trans ((middle_at _ _ p3 p4 _ o i a c p q).trans ?_)
    unfold lower
    rw [r2, r3]
    unfold eyeOf skewOf
    rw [he, hs]

/-- The nine entries of the matrix to invert, each an array of its own. -/
theorem ker_entries (o i : Fin 16) (a c : Fin 3) :
    (after opsD W (Proc.devRef .tc main_v53) : FVec Ideal S16x16x3x3 .f32) (ix4 o i a c) = (W (Proc.devRef .tc main_v51) : FVec Ideal S16x16x3x3x3x3 .f32) (ix6 o i a c 0 0)
    ∧ (after opsD W (Proc.devRef .tc main_v55) : FVec Ideal S16x16x3x3 .f32) (ix4 o i a c) = (W (Proc.devRef .tc main_v51) : FVec Ideal S16x16x3x3x3x3 .f32) (ix6 o i a c 0 1)
    ∧ (after opsD W (Proc.devRef .tc main_v57) : FVec Ideal S16x16x3x3 .f32) (ix4 o i a c) = (W (Proc.devRef .tc main_v51) : FVec Ideal S16x16x3x3x3x3 .f32) (ix6 o i a c 0 2)
    ∧ (after opsD W (Proc.devRef .tc main_v59) : FVec Ideal S16x16x3x3 .f32) (ix4 o i a c) = (W (Proc.devRef .tc main_v51) : FVec Ideal S16x16x3x3x3x3 .f32) (ix6 o i a c 1 0)
    ∧ (after opsD W (Proc.devRef .tc main_v61) : FVec Ideal S16x16x3x3 .f32) (ix4 o i a c) = (W (Proc.devRef .tc main_v51) : FVec Ideal S16x16x3x3x3x3 .f32) (ix6 o i a c 1 1)
    ∧ (after opsD W (Proc.devRef .tc main_v63) : FVec Ideal S16x16x3x3 .f32) (ix4 o i a c) = (W (Proc.devRef .tc main_v51) : FVec Ideal S16x16x3x3x3x3 .f32) (ix6 o i a c 1 2)
    ∧ (after opsD W (Proc.devRef .tc main_v65) : FVec Ideal S16x16x3x3 .f32) (ix4 o i a c) = (W (Proc.devRef .tc main_v51) : FVec Ideal S16x16x3x3x3x3 .f32) (ix6 o i a c 2 0)
    ∧ (after opsD W (Proc.devRef .tc main_v67) : FVec Ideal S16x16x3x3 .f32) (ix4 o i a c) = (W (Proc.devRef .tc main_v51) : FVec Ideal S16x16x3x3x3x3 .f32) (ix6 o i a c 2 1)
    ∧ (after opsD W (Proc.devRef .tc main_v69) : FVec Ideal S16x16x3x3 .f32) (ix4 o i a c) = (W (Proc.devRef .tc main_v51) : FVec Ideal S16x16x3x3x3x3 .f32) (ix6 o i a c 2 2) := by
  unfold opsD
  refine ⟨?_, ?_, ?_, ?_, ?_, ?_, ?_, ?_, ?_⟩ <;> after_reads_at

/-- The nine entries, as a matrix. -/
def entries (o i : Fin 16) (a c : Fin 3) : Fin 3 → Fin 3 → EReal :=
  ![![(W (Proc.devRef .tc main_v53) : FVec Ideal S16x16x3x3 .f32) (ix4 o i a c), (W (Proc.devRef .tc main_v55) : FVec Ideal S16x16x3x3 .f32) (ix4 o i a c), (W (Proc.devRef .tc main_v57) : FVec Ideal S16x16x3x3 .f32) (ix4 o i a c)],
    ![(W (Proc.devRef .tc main_v59) : FVec Ideal S16x16x3x3 .f32) (ix4 o i a c), (W (Proc.devRef .tc main_v61) : FVec Ideal S16x16x3x3 .f32) (ix4 o i a c), (W (Proc.devRef .tc main_v63) : FVec Ideal S16x16x3x3 .f32) (ix4 o i a c)],
    ![(W (Proc.devRef .tc main_v65) : FVec Ideal S16x16x3x3 .f32) (ix4 o i a c), (W (Proc.devRef .tc main_v67) : FVec Ideal S16x16x3x3 .f32) (ix4 o i a c), (W (Proc.devRef .tc main_v69) : FVec Ideal S16x16x3x3 .f32) (ix4 o i a c)]]

theorem ker_determinant_at (o i : Fin 16) (a c : Fin 3) :
    (after opsE W (Proc.devRef .tc main_v83) : FVec Ideal S16x16x3x3 .f32) (ix4 o i a c) = determinant (entries W o i a c) := by
  unfold opsE
  after_reads_at
  rfl

theorem ker_adjugate_at (o i : Fin 16) (a c p q : Fin 3) :
    (after opsE W (Proc.devRef .tc main_v126) : FVec Ideal S16x16x3x3x3x3 .f32) (ix6 o i a c p q) = adjugate (entries W o i a c) p q := by
  unfold opsE
  fin_cases p <;> fin_cases q <;> (after_reads_at; after_reads_at; after_reads_at) <;> rfl

theorem matrix_product (A B : FVec Ideal S16x16x3x3x3x3 .f32) (o i : Fin 16) (a c p q : Fin 3) :
    (Host.dotGeneral dot_S16x16x3x3x3x3_S16x16x3x3x3x3_S16x16x3x3x3x3_5_4_4_5_0123_0123 none A B : FVec Ideal S16x16x3x3x3x3 .f32) (ix6 o i a c p q)
      = ∑ k : Fin 3, (A (ix6 o i a c p k) * B (ix6 o i a c k q) : EReal) := by
  simp only [Host.dotGeneral]
  rw [Ideal.dotGeneral_apply, ← Equiv.sum_comp (ValueIdx.contrEquiv1 dot_S16x16x3x3x3x3_S16x16x3x3x3x3_S16x16x3x3x3x3_5_4_4_5_0123_0123 3 rfl rfl).symm]
  refine Finset.sum_congr rfl fun k _ => congrArg₂ (fun x y : EReal => x * y) (congrArg A ?_) (congrArg B ?_)
  · funext x
    fin_cases x <;> rfl
  · funext x
    fin_cases x <;> rfl

/-- The product of the quotient and the identity plus the skew matrix. -/
theorem ker_product_at (o i : Fin 16) (a c p q : Fin 3) :
    (after opsF W (Proc.devRef .tc main_v135) : FVec Ideal S16x16x3x3x3x3 .f32) (ix6 o i a c p q)
      = ∑ k : Fin 3, (Ideal.div (adjugateOf W (ix6 o i a c p k)) (determinantOf W (ix4 o i a c) + small) * (eyeOf W (ix2 k q) + upperOf W (ix6 o i a c k q)) : EReal) := by
  unfold opsF
  after_reads_at
  refine (matrix_product _ _ o i a c p q).trans (Finset.sum_congr rfl fun k _ => ?_)
  unfold adjugateOf determinantOf eyeOf upperOf
  generalize W (Proc.devRef .tc main_v126) = A1
  generalize W (Proc.devRef .tc main_v83) = A2
  generalize W (Proc.devRef .tc main_v43) = A3
  generalize W (Proc.devRef .tc main_v5) = A4
  pointwise
  rfl

/-- The parameters, as the kernel finds them. -/
abbrev parameters (m : (ℓ : Loc nD τ sig) → Buf (Elt Ideal) ℓ) (c : Dev nD) : FVec Ideal S16x16x8x3 .f32 := m (c, Proc.devRef .tc main_arg1)

/-- The kernel's array of Cayley matrices. -/
theorem group_cayley (m : (ℓ : Loc nD τ sig) → Buf (Elt Ideal) ℓ) (d : Dev nD) (o i : Fin 16) (a c p q : Fin 3) :
    group m d (ix6 o i a c p q) = cayley (a.val * 3 + c.val = 4)
      (fun r => parameters m d (ix4 o i ⟨if a.val * 3 + c.val = 8 then 4 else a.val * 3 + c.val, by split <;> omega⟩ r)) p q := by
  unfold group
  rw [ops_split, after_append, after_append, after_append, after_append, after_append]
  generalize hA : after opsA (fun b => m (d, b)) = WA
  generalize hB : after opsB WA = WB
  generalize hC : after opsC WB = WC
  generalize hD : after opsD WC = WD
  generalize hE : after opsE WD = WE
  have e0 : ∀ p q, eyeOf WA (ix2 p q) = eye p q := fun p q => by rw [← hA]; exact ker_eye_at _ p q
  have e1 : ∀ p q, eyeOf WB (ix2 p q) = eye p q := fun p q => by
    rw [← hB]; exact (congrFun (ker_eye_kept WA).1 _).trans (e0 p q)
  have e3 : ∀ p q, eyeOf WE (ix2 p q) = eye p q := fun p q => by
    have hc := (ker_eye_kept WB).2.1
    have hd := (ker_eye_kept WC).2.2.1
    have he := (ker_eye_kept WD).2.2.2.1
    rw [hC] at hc; rw [hD] at hd; rw [hE] at he
    exact (congrFun (he.trans (hd.trans hc)) _).trans (e1 p q)
  have u0 : (fun r => (WA (Proc.devRef .tc main_v12) : FVec Ideal S16x16x3x3x3 .f32) (ix5 o i a c r))
      = fun r => parameters m d (ix4 o i ⟨if a.val * 3 + c.val = 8 then 4 else a.val * 3 + c.val, by split <;> omega⟩ r) :=
    funext fun r => by rw [← hA]; exact ker_params_at _ o i a c r
  generalize (fun r => parameters m d (ix4 o i ⟨if a.val * 3 + c.val = 8 then 4 else a.val * 3 + c.val, by split <;> omega⟩ r)) = u at *
  have s1 : ∀ p q, skewOf WB (ix6 o i a c p q) = skew u p q := fun p q => by
    rw [← hB, ← u0]; exact ker_skew_at WA o i a c p q
  have l2 : ∀ p q, (WC (Proc.devRef .tc main_v51) : FVec Ideal S16x16x3x3x3x3 .f32) (ix6 o i a c p q) = lower (a.val * 3 + c.val = 4) u p q :=
    fun p q => by rw [← hC]; exact (ker_upper_lower WB u o i a c p q (e1 p q) (s1 p q)).2
  have u2 : ∀ p q, upperOf WE (ix6 o i a c p q) = upper (a.val * 3 + c.val = 4) u p q := fun p q => by
    have hd := (ker_eye_kept WC).2.2.2.2.1
    have he := (ker_eye_kept WD).2.2.2.2.2
    rw [hD] at hd; rw [hE] at he
    refine (congrFun (he.trans hd) _).trans ?_
    rw [← hC]; exact (ker_upper_lower WB u o i a c p q (e1 p q) (s1 p q)).1
  have n3 : entries WD o i a c = lower (a.val * 3 + c.val = 4) u := by
    obtain ⟨h00, h01, h02, h10, h11, h12, h20, h21, h22⟩ := ker_entries WC o i a c
    rw [hD] at h00 h01 h02 h10 h11 h12 h20 h21 h22
    funext p q
    refine Eq.trans ?_ (l2 p q)
    fin_cases p <;> fin_cases q
    · exact h00
    · exact h01
    · exact h02
    · exact h10
    · exact h11
    · exact h12
    · exact h20
    · exact h21
    · exact h22
  have d4 : determinantOf WE (ix4 o i a c) = determinant (lower (a.val * 3 + c.val = 4) u) := by
    rw [← n3, ← hE]; exact ker_determinant_at WD o i a c
  have a4 : ∀ p q, adjugateOf WE (ix6 o i a c p q) = adjugate (lower (a.val * 3 + c.val = 4) u) p q := fun p q => by
    rw [← n3, ← hE]; exact ker_adjugate_at WD o i a c p q
  have h := ker_product_at WE o i a c p q
  simp only [d4, a4, e3, u2] at h
  exact h

end Cert.Cayley
-- ==== Proof.Equation.lean ====
/- The kernel's result is the plain formula: its products with one weight matrix per tap are the two-sided products. -/
module

public import proofs.«01_k».proof.Proof.Reals
public import proofs.«01_k».proof.Proof.Values
public import proofs.«01_k».proof.Proof.OutputValue
public import proofs.«01_k».proof.Proof.HostReads
public import proofs.«01_k».proof.Proof.KernelGroup

@[expose] public section

noncomputable section

namespace Cert.Cayley

open Cert.KernelIdeal Cert.KernelIdeal.Gen Idealize.ShloMosaic Idealize.ShloMosaic.TcCoe Idealize.SL.Sem Idealize.ShloMosaic.StableHlo

/-- A sum over the nine entries of a 3×3 matrix. -/
theorem sum_entries (F : Fin 3 → Fin 3 → EReal) :
    ∑ j : Fin 9, F ⟨j.val / 3, by omega⟩ ⟨j.val % 3, by omega⟩ = ∑ q, ∑ s, F q s := by
  rw [← Fintype.sum_prod_type' (f := F)]
  refine (Fintype.sum_equiv (finProdFinEquiv (m := 3) (n := 3)) _ _ fun z => ?_).symm
  obtain ⟨q, s⟩ := z
  refine congrArg₂ F (Fin.ext ?_) (Fin.ext ?_) <;> simp only [finProdFinEquiv_apply_val] <;> omega

/-- A sum over the 144 entries of sixteen 3×3 matrices. -/
theorem sum_channels (F : Fin 16 → Fin 3 → Fin 3 → EReal) :
    ∑ k : Fin 144, F ⟨k.val / 9, by omega⟩ ⟨k.val / 3 % 3, by omega⟩ ⟨k.val % 3, by omega⟩ = ∑ i, ∑ q, ∑ s, F i q s := by
  have h : ∀ i : Fin 16, ∑ q, ∑ s, F i q s = ∑ j : Fin 9, F i ⟨j.val / 3, by omega⟩ ⟨j.val % 3, by omega⟩ := fun i => (sum_entries (F i)).symm
  simp only [h]
  rw [← Fintype.sum_prod_type' (f := fun (i : Fin 16) (j : Fin 9) => F i ⟨j.val / 3, by omega⟩ ⟨j.val % 3, by omega⟩)]
  refine (Fintype.sum_equiv (finProdFinEquiv (m := 16) (n := 9)) _ _ fun z => ?_).symm
  obtain ⟨i, j⟩ := z
  have hi : (⟨(finProdFinEquiv (i, j)).val / 9, by omega⟩ : Fin 16) = i := Fin.ext (by simp only [finProdFinEquiv_apply_val]; omega)
  have hq : (⟨(finProdFinEquiv (i, j)).val / 3 % 3, by omega⟩ : Fin 3) = ⟨j.val / 3, by omega⟩ := Fin.ext (by simp only [finProdFinEquiv_apply_val]; omega)
  have hs : (⟨(finProdFinEquiv (i, j)).val % 3, by omega⟩ : Fin 3) = ⟨j.val % 3, by omega⟩ := Fin.ext (by simp only [finProdFinEquiv_apply_val]; omega)
  rw [hi, hq, hs]

/-- The channel out `(o, p, t)`. -/
abbrev entryOf (o : Fin 16) (p t : Fin 3) : Fin 144 := ⟨o.val * 9 + (p.val * 3 + t.val), by omega⟩

/-- An array of matrices, by its coordinates. -/
abbrev matrices (G : FVec Ideal S16x16x3x3x3x3 .f32) : Mats := fun o i a c p q => G (ix6 o i a c p q)

theorem weight_at (G : FVec Ideal S16x16x3x3x3x3 .f32) (a c : Fin 3) (k : Fin 144) (o : Fin 16) (p t : Fin 3) :
    weight G a c k (entryOf o p t)
      = matrices G o ⟨k.val / 9, by omega⟩ a c p ⟨k.val / 3 % 3, by omega⟩ * matrices G o ⟨k.val / 9, by omega⟩ a c t ⟨k.val % 3, by omega⟩ := by
  have h1 : (⟨(entryOf o p t).val / 9, by omega⟩ : Fin 16) = o := Fin.ext (by simp only [entryOf]; omega)
  have h2 : (⟨(entryOf o p t).val / 3 % 3, by omega⟩ : Fin 3) = p := Fin.ext (by simp only [entryOf]; omega)
  have h3 : (⟨(entryOf o p t).val % 3, by omega⟩ : Fin 3) = t := Fin.ext (by simp only [entryOf]; omega)
  unfold weight
  rw [h1, h2, h3]

theorem weightLast_at (G : FVec Ideal S16x16x3x3x3x3 .f32) (a c : Fin 3) (k : Fin 9) (o : Fin 16) (p t : Fin 3) :
    weightLast G a c k (entryOf o p t)
      = matrices G o 15 a c p ⟨k.val / 3, by omega⟩ * matrices G o 15 a c t ⟨k.val % 3, by omega⟩ := by
  have h1 : (⟨(entryOf o p t).val / 9, by omega⟩ : Fin 16) = o := Fin.ext (by simp only [entryOf]; omega)
  have h2 : (⟨(entryOf o p t).val / 3 % 3, by omega⟩ : Fin 3) = p := Fin.ext (by simp only [entryOf]; omega)
  have h3 : (⟨(entryOf o p t).val % 3, by omega⟩ : Fin 3) = t := Fin.ext (by simp only [entryOf]; omega)
  unfold weightLast
  rw [h1, h2, h3]

section Formulas

variable (x : Img) (G : FVec Ideal S16x16x3x3x3x3 .f32) (hx : ∀ b i r w q s, IsReal (x b i r w q s)) (hG : ∀ o i a c p q, IsReal (matrices G o i a c p q))

include hx hG

/-- A pixel's product with a weight matrix is the tap's product. -/
theorem product_tap (b o : Fin 16) (a c : Fin 3) (r w : Fin 128) (p t : Fin 3) :
    ∑ k : Fin 144, x b ⟨k.val / 9, by omega⟩ r w ⟨k.val / 3 % 3, by omega⟩ ⟨k.val % 3, by omega⟩ * weight G a c k (entryOf o p t)
      = tap x (matrices G) b o a c r w p t := by
  simp only [weight_at]
  refine (sum_channels fun i q s => x b i r w q s * (matrices G o i a c p q * matrices G o i a c t s)).trans ?_
  unfold tap
  exact Finset.sum_congr rfl fun i _ => two_sided _ _ _ (fun q s => hx b i r w q s) (fun q => hG o i a c p q) (fun s => hG o i a c t s)

/-- A line along a row of the image is a tap moved, in the row it lands in. -/
theorem line_row (e : Fin 128 → Fin 144 → EReal) (M : Fin 144 → Fin 144 → EReal) (b o : Fin 16) (a c : Fin 3) (r : Fin 128)
    (he : ∀ w k, e w k = x b ⟨k.val / 9, by omega⟩ r w ⟨k.val / 3 % 3, by omega⟩ ⟨k.val % 3, by omega⟩) (hM : ∀ k n, M k n = weight G a c k n)
    (C : ℕ) (p t : Fin 3) : line e M c.val C (entryOf o p t) = moved x (matrices G) b o a c (r.val + a.val) C p t := by
  unfold line moved
  by_cases h : c.val ≤ C ∧ C < c.val + 128
  · rw [dif_pos h, dif_pos ⟨⟨by omega, by omega⟩, h⟩]
    simp only [he, hM]
    rw [product_tap x G hx hG]
    congr 1
    exact Fin.ext (by simp only; omega)
  · rw [dif_neg h, dif_neg fun h' => h h'.2]

/-- A line along a column of the image is a tap moved, in the column it lands in. -/
theorem line_column (e : Fin 128 → Fin 144 → EReal) (M : Fin 144 → Fin 144 → EReal) (b o : Fin 16) (a c : Fin 3) (w : Fin 128)
    (he : ∀ r k, e r k = x b ⟨k.val / 9, by omega⟩ r w ⟨k.val / 3 % 3, by omega⟩ ⟨k.val % 3, by omega⟩) (hM : ∀ k n, M k n = weight G a c k n)
    (R : ℕ) (p t : Fin 3) : line e M a.val R (entryOf o p t) = moved x (matrices G) b o a c R (w.val + c.val) p t := by
  unfold line moved
  by_cases h : a.val ≤ R ∧ R < a.val + 128
  · rw [dif_pos h, dif_pos ⟨h, ⟨by omega, by omega⟩⟩]
    simp only [he, hM]
    rw [product_tap x G hx hG]
    congr 1
    exact Fin.ext (by simp only; omega)
  · rw [dif_neg h, dif_neg fun h' => h h'.1]

omit hx in
/-- Nine entries' product with the last channel's weight matrix. -/
theorem product_conj (P : Fin 3 → Fin 3 → EReal) (hP : ∀ q s, IsReal (P q s)) (o : Fin 16) (a c p t : Fin 3) :
    ∑ j : Fin 9, P ⟨j.val / 3, by omega⟩ ⟨j.val % 3, by omega⟩ * weightLast G a c j (entryOf o p t) = conj (matrices G o 15 a c) P p t := by
  simp only [weightLast_at]
  refine (sum_entries fun q s => P q s * (matrices G o 15 a c p q * matrices G o 15 a c t s)).trans ?_
  exact two_sided _ _ _ hP (fun q => hG o 15 a c p q) (fun s => hG o 15 a c t s)

omit hG in
theorem padded_real (b : Fin 16) (R C : ℕ) (q s : Fin 3) : IsReal (padded x b R C q s) := by
  unfold padded
  split
  · exact hx _ _ _ _ _ _
  · exact isReal_zero

end Formulas

/-- Nine entries' product with the identity's rows. -/
theorem product_same (P : Fin 3 → Fin 3 → EReal) (o : Fin 16) (p t : Fin 3) :
    ∑ j : Fin 9, P ⟨j.val / 3, by omega⟩ ⟨j.val % 3, by omega⟩ * (if j.val = (entryOf o p t).val % 9 then 1 else 0 : EReal) = P p t := by
  rw [Finset.sum_eq_single (⟨p.val * 3 + t.val, by omega⟩ : Fin 9)]
  · rw [if_pos (by simp only [entryOf]; omega), mul_one]
    exact congrArg₂ P (Fin.ext (by simp only; omega)) (Fin.ext (by simp only; omega))
  · intro j _ hj
    rw [if_neg, mul_zero]
    intro h
    refine hj (Fin.ext ?_)
    simp only [entryOf] at h
    simp only
    omega
  · intro h
    exact absurd (Finset.mem_univ _) h

theorem moved_off (x : Img) (G : Mats) (b o : Fin 16) (a c : Fin 3) (R C : ℕ) (p t : Fin 3)
    (h : ¬((a.val ≤ R ∧ R < a.val + 128) ∧ (c.val ≤ C ∧ C < c.val + 128))) : moved x G b o a c R C p t = 0 := dif_neg h

section Spread

variable (x : Img) (G : Mats) (b o : Fin 16) (p t : Fin 3)

theorem spread_top (C : ℕ) : spread x G b o 0 C p t = (moved x G b o 0 0 0 C p t + moved x G b o 0 1 0 C p t) + moved x G b o 0 2 0 C p t := by
  have h : ∀ a c : Fin 3, 1 ≤ a.val → moved x G b o a c 0 C p t = 0 := fun a c ha => moved_off _ _ _ _ _ _ _ _ _ _ (by omega)
  unfold spread
  simp only [h 1 _ (by decide), h 2 _ (by decide), zero_add, add_zero]

theorem spread_bottom (C : ℕ) : spread x G b o 129 C p t = (moved x G b o 2 0 129 C p t + moved x G b o 2 1 129 C p t) + moved x G b o 2 2 129 C p t := by
  have h : ∀ a c : Fin 3, a.val ≤ 1 → moved x G b o a c 129 C p t = 0 := fun a c ha => moved_off _ _ _ _ _ _ _ _ _ _ (by omega)
  unfold spread
  simp only [h 0 _ (by decide), h 1 _ (by decide), zero_add, add_zero]

theorem spread_left (R : ℕ) : spread x G b o R 0 p t = (moved x G b o 0 0 R 0 p t + moved x G b o 1 0 R 0 p t) + moved x G b o 2 0 R 0 p t := by
  have h : ∀ a c : Fin 3, 1 ≤ c.val → moved x G b o a c R 0 p t = 0 := fun a c ha => moved_off _ _ _ _ _ _ _ _ _ _ (by omega)
  unfold spread
  simp only [h _ 1 (by decide), h _ 2 (by decide), zero_add, add_zero]

theorem spread_right (R : ℕ) : spread x G b o R 129 p t = (moved x G b o 0 2 R 129 p t + moved x G b o 1 2 R 129 p t) + moved x G b o 2 2 R 129 p t := by
  have h : ∀ a c : Fin 3, c.val ≤ 1 → moved x G b o a c R 129 p t = 0 := fun a c ha => moved_off _ _ _ _ _ _ _ _ _ _ (by omega)
  unfold spread
  simp only [h _ 0 (by decide), h _ 1 (by decide), zero_add, add_zero]

end Spread

variable (m : (ℓ : Loc nD τ sig) → Buf (Elt Ideal) ℓ)

/-- The kernel's image, by its coordinates. -/
abbrev picture (c : Dev nD) : Img := fun b i r w q s => image m c (ix6 b i r w q s)

/-- Every entry of a Cayley matrix is a real number. -/
theorem group_real (d : Dev nD) (o i : Fin 16) (a c p q : Fin 3) : IsReal (matrices (group m d) o i a c p q) := by
  unfold matrices
  rw [group_cayley]
  exact cayley_real _ _ _ _

section Sides

variable (d : Dev nD) (hx : ∀ b i r w q s, IsReal (picture m d b i r w q s)) (b o : Fin 16) (p t : Fin 3)

include hx

theorem side_top (C : ℕ) : sideOf (edgeArray m d) (ringArray m d) b 0 C (entryOf o p t) = spread (picture m d) (matrices (group m d)) b o 0 C p t := by
  rw [spread_top]
  have h := fun (j : Fin 12) (c : Fin 3) (hj : ∀ k n, ringArray m d (ix3 j k n) = weight (group m d) 0 c k n) =>
    line_row (picture m d) (group m d) hx (group_real m d) (fun r k => edgeArray m d (ix4 b 0 r k)) (fun k n => ringArray m d (ix3 j k n)) b o 0 c 0
      (fun w k => (edges_at m d b w k).1) hj C p t
  exact congrArg₂ (fun u v : EReal => u + v) (congrArg₂ (fun u v : EReal => u + v) (h 0 0 (ring_at m d 0)) (h 1 1 (ring_at m d 1))) (h 2 2 (ring_at m d 2))

theorem side_bottom (C : ℕ) : sideOf (edgeArray m d) (ringArray m d) b 1 C (entryOf o p t) = spread (picture m d) (matrices (group m d)) b o 129 C p t := by
  rw [spread_bottom]
  have h := fun (j : Fin 12) (c : Fin 3) (hj : ∀ k n, ringArray m d (ix3 j k n) = weight (group m d) 2 c k n) =>
    line_row (picture m d) (group m d) hx (group_real m d) (fun r k => edgeArray m d (ix4 b 1 r k)) (fun k n => ringArray m d (ix3 j k n)) b o 2 c 127
      (fun w k => (edges_at m d b w k).2.1) hj C p t
  exact congrArg₂ (fun u v : EReal => u + v) (congrArg₂ (fun u v : EReal => u + v) (h 3 0 (ring_at m d 3)) (h 4 1 (ring_at m d 4))) (h 5 2 (ring_at m d 5))

theorem side_left (R : ℕ) : sideOf (edgeArray m d) (ringArray m d) b 2 R (entryOf o p t) = spread (picture m d) (matrices (group m d)) b o R 0 p t := by
  rw [spread_left]
  have h := fun (j : Fin 12) (a : Fin 3) (hj : ∀ k n, ringArray m d (ix3 j k n) = weight (group m d) a 0 k n) =>
    line_column (picture m d) (group m d) hx (group_real m d) (fun r k => edgeArray m d (ix4 b 2 r k)) (fun k n => ringArray m d (ix3 j k n)) b o a 0 0
      (fun w k => (edges_at m d b w k).2.2.1) hj R p t
  exact congrArg₂ (fun u v : EReal => u + v) (congrArg₂ (fun u v : EReal => u + v) (h 6 0 (ring_at m d 6)) (h 7 1 (ring_at m d 7))) (h 8 2 (ring_at m d 8))

theorem side_right (R : ℕ) : sideOf (edgeArray m d) (ringArray m d) b 3 R (entryOf o p t) = spread (picture m d) (matrices (group m d)) b o R 129 p t := by
  rw [spread_right]
  have h := fun (j : Fin 12) (a : Fin 3) (hj : ∀ k n, ringArray m d (ix3 j k n) = weight (group m d) a 2 k n) =>
    line_column (picture m d) (group m d) hx (group_real m d) (fun r k => edgeArray m d (ix4 b 3 r k)) (fun k n => ringArray m d (ix3 j k n)) b o a 2 127
      (fun w k => (edges_at m d b w k).2.2.2) hj R p t
  exact congrArg₂ (fun u v : EReal => u + v) (congrArg₂ (fun u v : EReal => u + v) (h 9 0 (ring_at m d 9)) (h 10 1 (ring_at m d 10))) (h 11 2 (ring_at m d 11))

omit hx in
/-- A row of the last channel, padded. -/
theorem row_padded (R : Fin 130) (w : Fin 128) (j : Fin 9) :
    rowsArray m d (ix4 b R w j) = padded (picture m d) b R.val (w.val + 1) ⟨j.val / 3, by omega⟩ ⟨j.val % 3, by omega⟩ := by
  rw [rows_at]
  unfold padded
  by_cases h : 1 ≤ R.val ∧ R.val < 129
  · rw [dif_pos h, dif_pos ⟨h, ⟨by omega, by omega⟩⟩]
    congr 1
  · rw [dif_neg h, dif_neg fun h' => h h'.1]

omit hx in
theorem right_padded (R : Fin 130) (w : Fin 128) (j : Fin 9) :
    fromRight (fun w j => rowsArray m d (ix4 b R w j)) w j = padded (picture m d) b R.val (w.val + 1 + 1) ⟨j.val / 3, by omega⟩ ⟨j.val % 3, by omega⟩ := by
  unfold fromRight
  by_cases h : w.val < 127
  · rw [dif_pos h]
    refine (row_padded m d b R ⟨1 + w.val, by omega⟩ j).trans ?_
    rw [show 1 + w.val + 1 = w.val + 1 + 1 by omega]
  · rw [dif_neg h]
    unfold padded
    rw [dif_neg (by omega)]

omit hx in
theorem left_padded (R : Fin 130) (w : Fin 128) (j : Fin 9) :
    fromLeft (fun w j => rowsArray m d (ix4 b R w j)) w j = padded (picture m d) b R.val w.val ⟨j.val / 3, by omega⟩ ⟨j.val % 3, by omega⟩ := by
  unfold fromLeft
  by_cases h : w.val < 1
  · rw [dif_pos h]
    unfold padded
    rw [dif_neg (by omega)]
  · rw [dif_neg h]
    refine (row_padded m d b R ⟨w.val - 1, by omega⟩ j).trans ?_
    rw [show w.val - 1 + 1 = w.val by omega]

theorem five_inside (R : Fin 130) (Z : Fin 130) (hZ : Z.val = R.val + 1) (w : Fin 128) :
    fiveSums (fun w j => rowsArray m d (ix4 b R w j)) (fun w j => rowsArray m d (ix4 b Z w j)) (insideArray m d) w (entryOf o p t)
      = inside (picture m d) (matrices (group m d)) b o R.val (w.val + 1) p t := by
  have hp := padded_real (picture m d) hx b
  have hw := fun k => inside_at m d k (entryOf o p t)
  have hc := fun (P : Fin 3 → Fin 3 → EReal) (hP : ∀ q s, IsReal (P q s)) (a c : Fin 3) => product_conj (group m d) (group_real m d) P hP o a c p t
  unfold fiveSums inside
  refine congrArg₂ (fun u v : EReal => u + v) (congrArg₂ (fun u v : EReal => u + v) (congrArg₂ (fun u v : EReal => u + v) (congrArg₂ (fun u v : EReal => u + v) ?_ ?_) ?_) ?_) ?_
  · exact (Finset.sum_congr rfl fun j _ => congrArg₂ (fun u v : EReal => u * v) (row_padded m d b R w j) (hw j).1).trans
      (product_same (padded (picture m d) b R.val (w.val + 1)) o p t)
  · exact (Finset.sum_congr rfl fun j _ => congrArg₂ (fun u v : EReal => u * v) (right_padded m d b R w j) (hw j).2.1).trans (hc _ (hp _ _) 1 0)
  · exact (Finset.sum_congr rfl fun j _ => congrArg₂ (fun u v : EReal => u * v) ((left_padded m d b Z w j).trans (by rw [hZ])) (hw j).2.2.1).trans
      (hc (padded (picture m d) b (R.val + 1) w.val) (hp _ _) 0 2)
  · exact (Finset.sum_congr rfl fun j _ => congrArg₂ (fun u v : EReal => u * v) ((row_padded m d b Z w j).trans (by rw [hZ])) (hw j).2.2.2.1).trans
      (hc (padded (picture m d) b (R.val + 1) (w.val + 1)) (hp _ _) 0 1)
  · exact (Finset.sum_congr rfl fun j _ => congrArg₂ (fun u v : EReal => u * v) ((right_padded m d b Z w j).trans (by rw [hZ])) (hw j).2.2.2.2).trans
      (hc (padded (picture m d) b (R.val + 1) (w.val + 1 + 1)) (hp _ _) 0 0)

/-- The kernel's value at an index is the plain formula's. -/
theorem whole_outcome (R C : Fin 130) :
    whole (rowsArray m d) (edgeArray m d) (insideArray m d) (ringArray m d) b R C (entryOf o p t)
      = outcome (picture m d) (matrices (group m d)) b o R.val C.val p t := by
  unfold whole outcome
  by_cases h0 : R.val = 0
  · rw [if_pos h0, if_neg (by omega), side_top m d hx, h0]
  rw [if_neg h0]
  by_cases h1 : R.val = 129
  · rw [if_pos h1, if_neg (by omega), side_bottom m d hx, h1]
  rw [if_neg h1]
  by_cases h2 : C.val = 129
  · rw [if_pos h2, if_neg (by omega), side_right m d hx, h2]
  rw [if_neg h2]
  by_cases h3 : C.val = 0
  · rw [if_pos h3, if_neg (by omega), side_left m d hx, h3]
  rw [if_neg h3, if_pos ⟨⟨by omega, by omega⟩, ⟨by omega, by omega⟩⟩]
  refine (five_inside m d hx b o p t R _ ?_ _).trans ?_
  · exact Nat.mod_eq_of_lt (by omega)
  · congr 1
    simp only
    omega

end Sides

/-- The kernel's result at an index, for an image of real numbers. -/
theorem kernel_at (d : Dev nD) (hx : ∀ b i r w q s, IsReal (picture m d b i r w q s)) (b o : Fin 16) (R C : Fin 130) (p t : Fin 3) :
    (Pipeline.afterTail₀ cfgs (dats m) 0 (V0 m) [hostOps1] d main_v331 : Vec Ideal S16x16x130x130x3x3 .f32) (ix6 b o R C p t)
      = outcome (picture m d) (matrices (group m d)) b o R.val C.val p t :=
  (result_at m d b o R C p t).trans (whole_outcome m d hx b o p t R C)

end Cert.Cayley
-- ==== Proof.ReferenceTaps.lean ====
/- The reference's products, read at an index: the two contractions of a tap and those of the last channel. -/
module

public import proofs.«01_k».proof.Proof.ScatterWindow
public import proofs.«01_k».proof.Proof.Values
public import Idealize.ShloMosaic.Lib.TwoAxisContraction

@[expose] public section

noncomputable section

namespace Cert.Cayley

open Cert.ReferenceIdeal Cert.ReferenceIdeal.Read Cert.ReferenceIdeal.Facts₀ Cert.ReferenceIdeal.Facts Idealize.ShloMosaic Idealize.ShloMosaic.TcCoe Idealize.ShloMosaic.StableHlo

/-- The first contraction of a tap. -/
theorem dot_first (x : FVec Ideal S16x16x128x128x3x3 .f32) (W : FVec Ideal S16x16x3x3 .f32) (i b : Fin 16) (r w : Fin 128) (s : Fin 3)
    (o : Fin 16) (p : Fin 3) :
    (Host.dotGeneral dot_S16x16x128x128x3x3_S16x16x3x3_S16x16x128x128x3x16x3_4_3_0235_02_1_1 none x W : FVec Ideal S16x16x128x128x3x16x3 .f32)
        (ix7 i b r w s o p)
      = ∑ q : Fin 3, x (ix6 b i r w q s) * W (ix4 o i p q) := by
  simp only [Host.dotGeneral]
  rw [Ideal.dotGeneral_apply, ← Equiv.sum_comp (ValueIdx.contrEquiv1 dot_S16x16x128x128x3x3_S16x16x3x3_S16x16x128x128x3x16x3_4_3_0235_02_1_1 3 rfl rfl).symm]
  refine Finset.sum_congr rfl fun k _ => ?_
  have hk := ValueIdx.contrEquiv1_symm_val dot_S16x16x128x128x3x3_S16x16x3x3_S16x16x128x128x3x16x3_4_3_0235_02_1_1 3 rfl rfl k
  refine congrArg₂ (· * ·) (congrArg x (funext fun a => Fin.ext ?_)) (congrArg W (funext fun a => Fin.ext ?_))
  · match a with
    | ⟨0, _⟩ => exact lhs_main_v141_0 _ _
    | ⟨1, _⟩ => exact lhs_main_v141_1 _ _
    | ⟨2, _⟩ => exact lhs_main_v141_2 _ _
    | ⟨3, _⟩ => exact lhs_main_v141_3 _ _
    | ⟨4, _⟩ => exact (lhs_main_v141_4 _ _).trans hk
    | ⟨5, _⟩ => exact lhs_main_v141_5 _ _
  · match a with
    | ⟨0, _⟩ => exact rhs_main_v141_0 _ _
    | ⟨1, _⟩ => exact rhs_main_v141_1 _ _
    | ⟨2, _⟩ => exact rhs_main_v141_2 _ _
    | ⟨3, _⟩ => exact (rhs_main_v141_3 _ _).trans hk

/-- The second contraction of a tap, over the channels and a matrix axis. -/
theorem dot_second (y : FVec Ideal S16x16x128x128x3x16x3 .f32) (W : FVec Ideal S16x16x3x3 .f32) (o b : Fin 16) (r w : Fin 128) (p t : Fin 3) :
    (Host.dotGeneral dot_S16x16x128x128x3x16x3_S16x16x3x3_S16x16x128x128x3x3_14_13_0236_2_5_0 none y W : FVec Ideal S16x16x128x128x3x3 .f32)
        (ix6 o b r w p t)
      = ∑ i : Fin 16, ∑ s : Fin 3, y (ix7 b i r w s o p) * W (ix4 o i t s) := by
  simp only [Host.dotGeneral]
  rw [Ideal.dotGeneral_apply, ValueIdx.sum_contr2 dot_S16x16x128x128x3x16x3_S16x16x3x3_S16x16x128x128x3x3_14_13_0236_2_5_0 16 3 rfl rfl rfl]
  refine Finset.sum_congr rfl fun i _ => Finset.sum_congr rfl fun s _ => ?_
  have h0 := ValueIdx.contrEquiv2_symm_val0 dot_S16x16x128x128x3x16x3_S16x16x3x3_S16x16x128x128x3x3_14_13_0236_2_5_0 16 3 rfl rfl rfl (i, s)
  have h1 := ValueIdx.contrEquiv2_symm_val1 dot_S16x16x128x128x3x16x3_S16x16x3x3_S16x16x128x128x3x3_14_13_0236_2_5_0 16 3 rfl rfl rfl (i, s)
  refine congrArg₂ (· * ·) (congrArg y (funext fun a => Fin.ext ?_)) (congrArg W (funext fun a => Fin.ext ?_))
  · match a with
    | ⟨0, _⟩ => rfl
    | ⟨1, _⟩ => exact Eq.trans rfl h0
    | ⟨2, _⟩ => rfl
    | ⟨3, _⟩ => rfl
    | ⟨4, _⟩ => exact Eq.trans rfl h1
    | ⟨5, _⟩ => rfl
    | ⟨6, _⟩ => rfl
  · match a with
    | ⟨0, _⟩ => rfl
    | ⟨1, _⟩ => exact Eq.trans rfl h0
    | ⟨2, _⟩ => rfl
    | ⟨3, _⟩ => exact Eq.trans rfl h1

/-- A tap's product from its array of matrices. -/
def tapArray (x : FVec Ideal S16x16x128x128x3x3 .f32) (W : FVec Ideal S16x16x3x3 .f32) : FVec Ideal S16x16x128x128x3x3 .f32 :=
  transpose S16x16x128x128x3x3 [1, 0, 2, 3, 4, 5]
    (Host.dotGeneral dot_S16x16x128x128x3x16x3_S16x16x3x3_S16x16x128x128x3x3_14_13_0236_2_5_0 none
      (transpose S16x16x128x128x3x16x3 [1, 0, 2, 3, 4, 5, 6]
        (Host.dotGeneral dot_S16x16x128x128x3x3_S16x16x3x3_S16x16x128x128x3x16x3_4_3_0235_02_1_1 none x W : FVec Ideal S16x16x128x128x3x16x3 .f32)
        transposes_S16x16x128x128x3x16x3_S16x16x128x128x3x16x3_1_0_2_3_4_5_6) W : FVec Ideal S16x16x128x128x3x3 .f32)
    transposes_S16x16x128x128x3x3_S16x16x128x128x3x3_1_0_2_3_4_5

theorem tapArray_at (x : FVec Ideal S16x16x128x128x3x3 .f32) (W : FVec Ideal S16x16x3x3 .f32) (b o : Fin 16) (r w : Fin 128) (p t : Fin 3) :
    tapArray x W (ix6 b o r w p t) = ∑ i : Fin 16, ∑ s : Fin 3, (∑ q : Fin 3, x (ix6 b i r w q s) * W (ix4 o i p q)) * W (ix4 o i t s) := by
  unfold tapArray
  refine (transpose_apply _ _ _ (ix6 b o r w p t) (ix6 o b r w p t) (fun b => match b with
    | ⟨0, _⟩ => rfl | ⟨1, _⟩ => rfl | ⟨2, _⟩ => rfl | ⟨3, _⟩ => rfl | ⟨4, _⟩ => rfl | ⟨5, _⟩ => rfl)).trans ?_
  rw [dot_second]
  refine Finset.sum_congr rfl fun i _ => Finset.sum_congr rfl fun s _ => congrArg (· * _) ?_
  refine (transpose_apply _ _ _ (ix7 b i r w s o p) (ix7 i b r w s o p) (fun b => match b with
    | ⟨0, _⟩ => rfl | ⟨1, _⟩ => rfl | ⟨2, _⟩ => rfl | ⟨3, _⟩ => rfl | ⟨4, _⟩ => rfl | ⟨5, _⟩ => rfl | ⟨6, _⟩ => rfl)).trans ?_
  rw [dot_first]

/-- The first contraction of the last channel. -/
theorem last_first (x : FVec Ideal S16x128x128x3x3 .f32) (W : FVec Ideal S16x3x3 .f32) (b : Fin 16) (r w : Fin 128) (s : Fin 3)
    (o : Fin 16) (p : Fin 3) :
    (Host.dotGeneral dot_S16x128x128x3x3_S16x3x3_S16x128x128x3x16x3_3_2_0124_01_n_n none x W : FVec Ideal S16x128x128x3x16x3 .f32)
        (ix6 b r w s o p)
      = ∑ q : Fin 3, x (ix5 b r w q s) * W (ix3 o p q) := by
  simp only [Host.dotGeneral]
  rw [Ideal.dotGeneral_apply, ← Equiv.sum_comp (ValueIdx.contrEquiv1 dot_S16x128x128x3x3_S16x3x3_S16x128x128x3x16x3_3_2_0124_01_n_n 3 rfl rfl).symm]
  refine Finset.sum_congr rfl fun k _ => ?_
  have hk := ValueIdx.contrEquiv1_symm_val dot_S16x128x128x3x3_S16x3x3_S16x128x128x3x16x3_3_2_0124_01_n_n 3 rfl rfl k
  refine congrArg₂ (· * ·) (congrArg x (funext fun a => Fin.ext ?_)) (congrArg W (funext fun a => Fin.ext ?_))
  · match a with
    | ⟨0, _⟩ => exact lhs_main_v238_0 _ _
    | ⟨1, _⟩ => exact lhs_main_v238_1 _ _
    | ⟨2, _⟩ => exact lhs_main_v238_2 _ _
    | ⟨3, _⟩ => exact (lhs_main_v238_3 _ _).trans hk
    | ⟨4, _⟩ => exact lhs_main_v238_4 _ _
  · match a with
    | ⟨0, _⟩ => exact rhs_main_v238_0 _ _
    | ⟨1, _⟩ => exact rhs_main_v238_1 _ _
    | ⟨2, _⟩ => exact (rhs_main_v238_2 _ _).trans hk

/-- The second contraction of the last channel. -/
theorem last_second (y : FVec Ideal S16x128x128x3x16x3 .f32) (W : FVec Ideal S16x3x3 .f32) (o b : Fin 16) (r w : Fin 128) (p t : Fin 3) :
    (Host.dotGeneral dot_S16x128x128x3x16x3_S16x3x3_S16x16x128x128x3x3_3_2_0125_1_4_0 none y W : FVec Ideal S16x16x128x128x3x3 .f32)
        (ix6 o b r w p t)
      = ∑ s : Fin 3, y (ix6 b r w s o p) * W (ix3 o t s) := by
  simp only [Host.dotGeneral]
  rw [Ideal.dotGeneral_apply, ← Equiv.sum_comp (ValueIdx.contrEquiv1 dot_S16x128x128x3x16x3_S16x3x3_S16x16x128x128x3x3_3_2_0125_1_4_0 3 rfl rfl).symm]
  refine Finset.sum_congr rfl fun k _ => ?_
  have hk := ValueIdx.contrEquiv1_symm_val dot_S16x128x128x3x16x3_S16x3x3_S16x16x128x128x3x3_3_2_0125_1_4_0 3 rfl rfl k
  refine congrArg₂ (· * ·) (congrArg y (funext fun a => Fin.ext ?_)) (congrArg W (funext fun a => Fin.ext ?_))
  · match a with
    | ⟨0, _⟩ => exact lhs_main_v239_0 _ _
    | ⟨1, _⟩ => exact lhs_main_v239_1 _ _
    | ⟨2, _⟩ => exact lhs_main_v239_2 _ _
    | ⟨3, _⟩ => exact (lhs_main_v239_3 _ _).trans hk
    | ⟨4, _⟩ => exact lhs_main_v239_4 _ _
    | ⟨5, _⟩ => exact lhs_main_v239_5 _ _
  · match a with
    | ⟨0, _⟩ => exact rhs_main_v239_0 _ _
    | ⟨1, _⟩ => exact rhs_main_v239_1 _ _
    | ⟨2, _⟩ => exact (rhs_main_v239_2 _ _).trans hk

/-- A tap of the last channel. -/
def lastArray (x : FVec Ideal S16x128x128x3x3 .f32) (W : FVec Ideal S16x3x3 .f32) : FVec Ideal S16x16x128x128x3x3 .f32 :=
  transpose S16x16x128x128x3x3 [1, 0, 2, 3, 4, 5]
    (Host.dotGeneral dot_S16x128x128x3x16x3_S16x3x3_S16x16x128x128x3x3_3_2_0125_1_4_0 none
        (Host.dotGeneral dot_S16x128x128x3x3_S16x3x3_S16x128x128x3x16x3_3_2_0124_01_n_n none x W : FVec Ideal S16x128x128x3x16x3 .f32)
      W : FVec Ideal S16x16x128x128x3x3 .f32)
    transposes_S16x16x128x128x3x3_S16x16x128x128x3x3_1_0_2_3_4_5

theorem lastArray_at (x : FVec Ideal S16x128x128x3x3 .f32) (W : FVec Ideal S16x3x3 .f32) (b o : Fin 16) (r w : Fin 128) (p t : Fin 3) :
    lastArray x W (ix6 b o r w p t) = ∑ s : Fin 3, (∑ q : Fin 3, x (ix5 b r w q s) * W (ix3 o p q)) * W (ix3 o t s) := by
  unfold lastArray
  refine (transpose_apply _ _ _ (ix6 b o r w p t) (ix6 o b r w p t) (fun b => match b with
    | ⟨0, _⟩ => rfl | ⟨1, _⟩ => rfl | ⟨2, _⟩ => rfl | ⟨3, _⟩ => rfl | ⟨4, _⟩ => rfl | ⟨5, _⟩ => rfl)).trans ?_
  rw [last_second]
  exact Finset.sum_congr rfl fun s _ => congrArg (· * _) (last_first x W b r w s o p)

end Cert.Cayley
-- ==== Proof.ReferenceSpread.lean ====
/- The reference's nine scattered taps, read at an index. -/
module

public import proofs.«01_k».proof.Proof.ReferenceTaps

@[expose] public section

noncomputable section

namespace Cert.Cayley

open Cert.ReferenceIdeal Cert.ReferenceIdeal.Read Cert.ReferenceIdeal.Facts₀ Cert.ReferenceIdeal.Facts Idealize.ShloMosaic Idealize.ShloMosaic.TcCoe Idealize.ShloMosaic.StableHlo

/-- An array of images, by its coordinates. -/
abbrev imgOf (x : FVec Ideal S16x16x128x128x3x3 .f32) : Img := fun b i r w q s => x (ix6 b i r w q s)

/-- An array of matrices, by its coordinates. -/
abbrev matsOf (G : FVec Ideal S16x16x3x3x3x3 .f32) : Mats := fun o i a c p q => G (ix6 o i a c p q)

/-- One tap added into its window. -/
theorem tap_scatter (prev : FVec Ideal S16x16x130x130x3x3 .f32) (idx : IVec S2 32) (x : FVec Ideal S16x16x128x128x3x3 .f32)
    (W : FVec Ideal S16x16x3x3 .f32) (G : FVec Ideal S16x16x3x3x3x3 .f32) (a c : Fin 3) (ha : (idx (ix1 0)).toInt = a.val)
    (hc : (idx (ix1 1)).toInt = c.val) (hW : ∀ o i p q, W (ix4 o i p q) = G (ix6 o i a c p q)) (b o : Fin 16) (R C : Fin 130) (p t : Fin 3) :
    (Host.scatter scatter_S16x16x130x130x3x3_S2_S16x16x128x128x3x3_012345_n_23_0 (FloatOps.addf (F := Ideal) (φ := .f32)) prev idx (tapArray x W) : FVec Ideal S16x16x130x130x3x3 .f32) (ix6 b o R C p t)
      = (prev (ix6 b o R C p t) + moved (imgOf x) (matsOf G) b o a c R.val C.val p t : EReal) := by
  refine (scatter_window _ prev idx (tapArray x W) a.val c.val ha hc b o R C p t).trans ?_
  unfold moved
  split
  · refine congrArg (fun y : EReal => prev (ix6 b o R C p t) + y) ?_
    rw [tapArray_at]
    simp only [hW]
    rfl
  · exact (add_zero _).symm

/-- The matrices of each tap. -/
def slices (x1 : FVec Ideal S16x16x8x3 .f32) : Fin 3 → Fin 3 → FVec Ideal S16x16x3x3 .f32 :=
  ![![(val_main_v140 (F := Ideal) x1), (val_main_v150 (F := Ideal) x1), (val_main_v160 (F := Ideal) x1)], ![(val_main_v170 (F := Ideal) x1), (val_main_v180 (F := Ideal) x1), (val_main_v190 (F := Ideal) x1)],
    ![(val_main_v200 (F := Ideal) x1), (val_main_v210 (F := Ideal) x1), (val_main_v220 (F := Ideal) x1)]]

/-- The matrices of tap `(a, c)`, read off the array of all. -/
theorem slice_at (x1 : FVec Ideal S16x16x8x3 .f32) (a c : Fin 3) (o i : Fin 16) (p q : Fin 3) :
    slices x1 a c (ix4 o i p q) = (val_main_v137 (F := Ideal) x1 : FVec Ideal S16x16x3x3x3x3 .f32) (ix6 o i a c p q) := by
  unfold slices val_main_v140 val_main_v139 val_main_v150 val_main_v149 val_main_v160 val_main_v159 val_main_v170 val_main_v169 val_main_v180 val_main_v179 val_main_v190 val_main_v189 val_main_v200 val_main_v199 val_main_v210 val_main_v209 val_main_v220 val_main_v219
  generalize val_main_v137 (F := Ideal) x1 = G
  fin_cases a <;> fin_cases c <;> (dsimp only [Fin.reduceFinMk, Matrix.cons_val]; pointwise)

/-- The nine taps added one after another. -/
theorem spread_at (x0 : FVec Ideal S16x16x128x128x3x3 .f32) (x1 : FVec Ideal S16x16x8x3 .f32) (b o : Fin 16) (R C : Fin 130) (p t : Fin 3) :
    (val_main_v228 (F := Ideal) x0 x1 : FVec Ideal S16x16x130x130x3x3 .f32) (ix6 b o R C p t)
      = spread (imgOf x0) (matsOf (val_main_v137 (F := Ideal) x1)) b o R.val C.val p t := by
  have h0 : (val_main_v138 (F := Ideal) : FVec Ideal S16x16x130x130x3x3 .f32) (ix6 b o R C p t) = (0 : EReal) := Ideal.ofBits_zero_f32
  have h1 : (val_main_v148 (F := Ideal) x0 x1 : FVec Ideal S16x16x130x130x3x3 .f32) (ix6 b o R C p t)
      = ((val_main_v138 (F := Ideal) : FVec Ideal S16x16x130x130x3x3 .f32) (ix6 b o R C p t) + moved (imgOf x0) (matsOf (val_main_v137 (F := Ideal) x1)) b o 0 0 R.val C.val p t : EReal) :=
    tap_scatter (val_main_v138 (F := Ideal)) (val_main_v147 (F := Ideal)) x0 (val_main_v140 (F := Ideal) x1) (val_main_v137 (F := Ideal) x1) 0 0 rfl rfl (fun o i p q => slice_at x1 0 0 o i p q) b o R C p t
  have h2 : (val_main_v158 (F := Ideal) x0 x1 : FVec Ideal S16x16x130x130x3x3 .f32) (ix6 b o R C p t)
      = ((val_main_v148 (F := Ideal) x0 x1 : FVec Ideal S16x16x130x130x3x3 .f32) (ix6 b o R C p t) + moved (imgOf x0) (matsOf (val_main_v137 (F := Ideal) x1)) b o 0 1 R.val C.val p t : EReal) :=
    tap_scatter (val_main_v148 (F := Ideal) x0 x1) (val_main_v157 (F := Ideal)) x0 (val_main_v150 (F := Ideal) x1) (val_main_v137 (F := Ideal) x1) 0 1 rfl rfl (fun o i p q => slice_at x1 0 1 o i p q) b o R C p t
  have h3 : (val_main_v168 (F := Ideal) x0 x1 : FVec Ideal S16x16x130x130x3x3 .f32) (ix6 b o R C p t)
      = ((val_main_v158 (F := Ideal) x0 x1 : FVec Ideal S16x16x130x130x3x3 .f32) (ix6 b o R C p t) + moved (imgOf x0) (matsOf (val_main_v137 (F := Ideal) x1)) b o 0 2 R.val C.val p t : EReal) :=
    tap_scatter (val_main_v158 (F := Ideal) x0 x1) (val_main_v167 (F := Ideal)) x0 (val_main_v160 (F := Ideal) x1) (val_main_v137 (F := Ideal) x1) 0 2 rfl rfl (fun o i p q => slice_at x1 0 2 o i p q) b o R C p t
  have h4 : (val_main_v178 (F := Ideal) x0 x1 : FVec Ideal S16x16x130x130x3x3 .f32) (ix6 b o R C p t)
      = ((val_main_v168 (F := Ideal) x0 x1 : FVec Ideal S16x16x130x130x3x3 .f32) (ix6 b o R C p t) + moved (imgOf x0) (matsOf (val_main_v137 (F := Ideal) x1)) b o 1 0 R.val C.val p t : EReal) :=
    tap_scatter (val_main_v168 (F := Ideal) x0 x1) (val_main_v177 (F := Ideal)) x0 (val_main_v170 (F := Ideal) x1) (val_main_v137 (F := Ideal) x1) 1 0 rfl rfl (fun o i p q => slice_at x1 1 0 o i p q) b o R C p t
  have h5 : (val_main_v188 (F := Ideal) x0 x1 : FVec Ideal S16x16x130x130x3x3 .f32) (ix6 b o R C p t)
      = ((val_main_v178 (F := Ideal) x0 x1 : FVec Ideal S16x16x130x130x3x3 .f32) (ix6 b o R C p t) + moved (imgOf x0) (matsOf (val_main_v137 (F := Ideal) x1)) b o 1 1 R.val C.val p t : EReal) :=
    tap_scatter (val_main_v178 (F := Ideal) x0 x1) (val_main_v187 (F := Ideal)) x0 (val_main_v180 (F := Ideal) x1) (val_main_v137 (F := Ideal) x1) 1 1 rfl rfl (fun o i p q => slice_at x1 1 1 o i p q) b o R C p t
  have h6 : (val_main_v198 (F := Ideal) x0 x1 : FVec Ideal S16x16x130x130x3x3 .f32) (ix6 b o R C p t)
      = ((val_main_v188 (F := Ideal) x0 x1 : FVec Ideal S16x16x130x130x3x3 .f32) (ix6 b o R C p t) + moved (imgOf x0) (matsOf (val_main_v137 (F := Ideal) x1)) b o 1 2 R.val C.val p t : EReal) :=
    tap_scatter (val_main_v188 (F := Ideal) x0 x1) (val_main_v197 (F := Ideal)) x0 (val_main_v190 (F := Ideal) x1) (val_main_v137 (F := Ideal) x1) 1 2 rfl rfl (fun o i p q => slice_at x1 1 2 o i p q) b o R C p t
  have h7 : (val_main_v208 (F := Ideal) x0 x1 : FVec Ideal S16x16x130x130x3x3 .f32) (ix6 b o R C p t)
      = ((val_main_v198 (F := Ideal) x0 x1 : FVec Ideal S16x16x130x130x3x3 .f32) (ix6 b o R C p t) + moved (imgOf x0) (matsOf (val_main_v137 (F := Ideal) x1)) b o 2 0 R.val C.val p t : EReal) :=
    tap_scatter (val_main_v198 (F := Ideal) x0 x1) (val_main_v207 (F := Ideal)) x0 (val_main_v200 (F := Ideal) x1) (val_main_v137 (F := Ideal) x1) 2 0 rfl rfl (fun o i p q => slice_at x1 2 0 o i p q) b o R C p t
  have h8 : (val_main_v218 (F := Ideal) x0 x1 : FVec Ideal S16x16x130x130x3x3 .f32) (ix6 b o R C p t)
      = ((val_main_v208 (F := Ideal) x0 x1 : FVec Ideal S16x16x130x130x3x3 .f32) (ix6 b o R C p t) + moved (imgOf x0) (matsOf (val_main_v137 (F := Ideal) x1)) b o 2 1 R.val C.val p t : EReal) :=
    tap_scatter (val_main_v208 (F := Ideal) x0 x1) (val_main_v217 (F := Ideal)) x0 (val_main_v210 (F := Ideal) x1) (val_main_v137 (F := Ideal) x1) 2 1 rfl rfl (fun o i p q => slice_at x1 2 1 o i p q) b o R C p t
  have h9 : (val_main_v228 (F := Ideal) x0 x1 : FVec Ideal S16x16x130x130x3x3 .f32) (ix6 b o R C p t)
      = ((val_main_v218 (F := Ideal) x0 x1 : FVec Ideal S16x16x130x130x3x3 .f32) (ix6 b o R C p t) + moved (imgOf x0) (matsOf (val_main_v137 (F := Ideal) x1)) b o 2 2 R.val C.val p t : EReal) :=
    tap_scatter (val_main_v218 (F := Ideal) x0 x1) (val_main_v227 (F := Ideal)) x0 (val_main_v220 (F := Ideal) x1) (val_main_v137 (F := Ideal) x1) 2 2 rfl rfl (fun o i p q => slice_at x1 2 2 o i p q) b o R C p t
  rw [h9, h8, h7, h6, h5, h4, h3, h2, h1, h0]
  rfl

end Cert.Cayley
-- ==== Proof.ReferenceValue.lean ====
/- The reference's result, read at an index. -/
module

public import proofs.«01_k».proof.Proof.ReferenceSpread

@[expose] public section

noncomputable section

namespace Cert.Cayley

open Cert.ReferenceIdeal Cert.ReferenceIdeal.Read Cert.ReferenceIdeal.Facts₀ Cert.ReferenceIdeal.Facts Idealize.ShloMosaic Idealize.ShloMosaic.TcCoe Idealize.ShloMosaic.StableHlo

/-- The last channel of the image. -/
theorem channel_at (x0 : FVec Ideal S16x16x128x128x3x3 .f32) (b : Fin 16) (r w : Fin 128) (q s : Fin 3) :
    (val_main_v230 (F := Ideal) x0 : FVec Ideal S16x128x128x3x3 .f32) (ix5 b r w q s) = x0 (ix6 b 15 r w q s) := by
  unfold val_main_v230 val_main_v229
  pointwise

/-- The matrices of the last channel. -/
theorem group_at (x1 : FVec Ideal S16x16x8x3 .f32) (o : Fin 16) (a c p q : Fin 3) :
    (val_main_v232 (F := Ideal) x1 : FVec Ideal S16x3x3x3x3 .f32) (ix5 o a c p q) = (val_main_v137 (F := Ideal) x1 : FVec Ideal S16x16x3x3x3x3 .f32) (ix6 o 15 a c p q) := by
  unfold val_main_v232 val_main_v231
  generalize val_main_v137 (F := Ideal) x1 = G
  pointwise

/-- The last channel's matrices of tap (1, 0). -/
theorem matrix_at10 (x1 : FVec Ideal S16x16x8x3 .f32) (o : Fin 16) (p q : Fin 3) :
    (val_main_v237 (F := Ideal) x1 : FVec Ideal S16x3x3 .f32) (ix3 o p q) = (val_main_v137 (F := Ideal) x1 : FVec Ideal S16x16x3x3x3x3 .f32) (ix6 o 15 1 0 p q) := by
  rw [← group_at]
  unfold val_main_v237 val_main_v236
  generalize val_main_v232 (F := Ideal) x1 = G
  pointwise

/-- The last channel's matrices of tap (0, 2). -/
theorem matrix_at02 (x1 : FVec Ideal S16x16x8x3 .f32) (o : Fin 16) (p q : Fin 3) :
    (val_main_v246 (F := Ideal) x1 : FVec Ideal S16x3x3 .f32) (ix3 o p q) = (val_main_v137 (F := Ideal) x1 : FVec Ideal S16x16x3x3x3x3 .f32) (ix6 o 15 0 2 p q) := by
  rw [← group_at]
  unfold val_main_v246 val_main_v245
  generalize val_main_v232 (F := Ideal) x1 = G
  pointwise

/-- The last channel's matrices of tap (0, 1). -/
theorem matrix_at01 (x1 : FVec Ideal S16x16x8x3 .f32) (o : Fin 16) (p q : Fin 3) :
    (val_main_v254 (F := Ideal) x1 : FVec Ideal S16x3x3 .f32) (ix3 o p q) = (val_main_v137 (F := Ideal) x1 : FVec Ideal S16x16x3x3x3x3 .f32) (ix6 o 15 0 1 p q) := by
  rw [← group_at]
  unfold val_main_v254 val_main_v253
  generalize val_main_v232 (F := Ideal) x1 = G
  pointwise

/-- The last channel's matrices of tap (0, 0). -/
theorem matrix_at00 (x1 : FVec Ideal S16x16x8x3 .f32) (o : Fin 16) (p q : Fin 3) :
    (val_main_v262 (F := Ideal) x1 : FVec Ideal S16x3x3 .f32) (ix3 o p q) = (val_main_v137 (F := Ideal) x1 : FVec Ideal S16x16x3x3x3x3 .f32) (ix6 o 15 0 0 p q) := by
  rw [← group_at]
  unfold val_main_v262 val_main_v261
  generalize val_main_v232 (F := Ideal) x1 = G
  pointwise

/-- A border of zeros around the last channel. -/
theorem border_at (x0 : FVec Ideal S16x16x128x128x3x3 .f32) (z : FVec Ideal S_ .f32) (hz : ∀ i, z i = (0 : EReal)) (b : Fin 16) (R C : Fin 130) (q s : Fin 3) :
    (pad S16x130x130x3x3 ![0, 1, 1, 0, 0] ![0, 1, 1, 0, 0] ![0, 0, 0, 0, 0] (val_main_v230 (F := Ideal) x0) z pads_S16x128x128x3x3_S16x130x130x3x3_000_110_110_000_000 h_S_ : FVec Ideal S16x130x130x3x3 .f32)
      (ix5 b R C q s) = padded (imgOf x0) b R.val C.val q s := by
  unfold padded
  have hch := channel_at x0
  generalize val_main_v230 (F := Ideal) x0 = X at *
  pointwise
  split_ifs with h1 h2 h2
  · exact hch _ _ _ _ _
  · exact absurd h1 (by omega)
  · exact absurd h2 (by omega)
  · exact hz _

theorem pad_zero : (FloatOps.sitofp .f32 (0#32) : Ideal .f32) = (0 : EReal) := by
  change (((0#32 : BitVec 32).toInt : ℝ) : EReal) = 0
  simp

/-- The last channel, moved for tap (1, 0). -/
theorem shifted_at10 (x0 : FVec Ideal S16x16x128x128x3x3 .f32) (b : Fin 16) (r w : Fin 128) (q s : Fin 3) :
    (val_main_v235 (F := Ideal) x0 : FVec Ideal S16x128x128x3x3 .f32) (ix5 b r w q s) = padded (imgOf x0) b (1 + r.val) (2 + w.val) q s := by
  have hb := border_at x0 (val_main_call1_v0 (F := Ideal)) (fun _ => pad_zero) b ⟨1 + r.val, by omega⟩ ⟨2 + w.val, by omega⟩ q s
  refine Eq.trans ?_ hb
  unfold val_main_v235 val_main_v234
  generalize pad S16x130x130x3x3 ![0, 1, 1, 0, 0] ![0, 1, 1, 0, 0] ![0, 0, 0, 0, 0] (val_main_v230 (F := Ideal) x0) (val_main_call1_v0 (F := Ideal)) pads_S16x128x128x3x3_S16x130x130x3x3_000_110_110_000_000 h_S_ = P
  pointwise

/-- The last channel, moved for tap (0, 2). -/
theorem shifted_at02 (x0 : FVec Ideal S16x16x128x128x3x3 .f32) (b : Fin 16) (r w : Fin 128) (q s : Fin 3) :
    (val_main_v244 (F := Ideal) x0 : FVec Ideal S16x128x128x3x3 .f32) (ix5 b r w q s) = padded (imgOf x0) b (2 + r.val) (0 + w.val) q s := by
  have hb := border_at x0 (val_main_call2_v0 (F := Ideal)) (fun _ => pad_zero) b ⟨2 + r.val, by omega⟩ ⟨0 + w.val, by omega⟩ q s
  refine Eq.trans ?_ hb
  unfold val_main_v244 val_main_v243
  generalize pad S16x130x130x3x3 ![0, 1, 1, 0, 0] ![0, 1, 1, 0, 0] ![0, 0, 0, 0, 0] (val_main_v230 (F := Ideal) x0) (val_main_call2_v0 (F := Ideal)) pads_S16x128x128x3x3_S16x130x130x3x3_000_110_110_000_000 h_S_ = P
  pointwise

/-- The last channel, moved for tap (0, 1). -/
theorem shifted_at01 (x0 : FVec Ideal S16x16x128x128x3x3 .f32) (b : Fin 16) (r w : Fin 128) (q s : Fin 3) :
    (val_main_v252 (F := Ideal) x0 : FVec Ideal S16x128x128x3x3 .f32) (ix5 b r w q s) = padded (imgOf x0) b (2 + r.val) (1 + w.val) q s := by
  have hb := border_at x0 (val_main_call3_v0 (F := Ideal)) (fun _ => pad_zero) b ⟨2 + r.val, by omega⟩ ⟨1 + w.val, by omega⟩ q s
  refine Eq.trans ?_ hb
  unfold val_main_v252 val_main_v251
  generalize pad S16x130x130x3x3 ![0, 1, 1, 0, 0] ![0, 1, 1, 0, 0] ![0, 0, 0, 0, 0] (val_main_v230 (F := Ideal) x0) (val_main_call3_v0 (F := Ideal)) pads_S16x128x128x3x3_S16x130x130x3x3_000_110_110_000_000 h_S_ = P
  pointwise

/-- The last channel, moved for tap (0, 0). -/
theorem shifted_at00 (x0 : FVec Ideal S16x16x128x128x3x3 .f32) (b : Fin 16) (r w : Fin 128) (q s : Fin 3) :
    (val_main_v260 (F := Ideal) x0 : FVec Ideal S16x128x128x3x3 .f32) (ix5 b r w q s) = padded (imgOf x0) b (2 + r.val) (2 + w.val) q s := by
  have hb := border_at x0 (val_main_call4_v0 (F := Ideal)) (fun _ => pad_zero) b ⟨2 + r.val, by omega⟩ ⟨2 + w.val, by omega⟩ q s
  refine Eq.trans ?_ hb
  unfold val_main_v260 val_main_v259
  generalize pad S16x130x130x3x3 ![0, 1, 1, 0, 0] ![0, 1, 1, 0, 0] ![0, 0, 0, 0, 0] (val_main_v230 (F := Ideal) x0) (val_main_call4_v0 (F := Ideal)) pads_S16x128x128x3x3_S16x130x130x3x3_000_110_110_000_000 h_S_ = P
  pointwise

/-- One tap of the last channel. -/
theorem last_tap (x : FVec Ideal S16x128x128x3x3 .f32) (W : FVec Ideal S16x3x3 .f32) (y : Fin 3 → Fin 3 → EReal) (M : Fin 3 → Fin 3 → EReal) (b o : Fin 16) (r w : Fin 128)
    (hx : ∀ q s, x (ix5 b r w q s) = y q s) (hW : ∀ p q, W (ix3 o p q) = M p q) (p t : Fin 3) :
    lastArray x W (ix6 b o r w p t) = conj M y p t := by
  rw [lastArray_at]
  simp only [hx, hW]
  rfl

theorem padded_inside (x : Img) (b : Fin 16) (r w : Fin 128) (q s : Fin 3) : padded x b (r.val + 1) (w.val + 1) q s = x b 15 r w q s := by
  unfold padded
  rw [dif_pos ⟨⟨by omega, by omega⟩, by omega, by omega⟩]
  rfl

/-- The values set inside the border. -/
theorem inner_at (x0 : FVec Ideal S16x16x128x128x3x3 .f32) (x1 : FVec Ideal S16x16x8x3 .f32) (b o : Fin 16) (r w : Fin 128) (p t : Fin 3) :
    (val_main_v266 (F := Ideal) x0 x1 : FVec Ideal S16x16x128x128x3x3 .f32) (ix6 b o r w p t)
      = inside (imgOf x0) (matsOf (val_main_v137 (F := Ideal) x1)) b o (r.val + 1) (w.val + 1) p t := by
  have h0 : (val_main_v241 (F := Ideal) x0 : FVec Ideal S16x16x128x128x3x3 .f32) (ix6 b o r w p t) = padded (imgOf x0) b (r.val + 1) (w.val + 1) p t := by
    rw [padded_inside]
    refine Eq.trans ?_ (channel_at x0 b r w p t)
    unfold val_main_v241 val_main_v233
    generalize val_main_v230 (F := Ideal) x0 = X
    pointwise
  have h1 : (val_main_v240 (F := Ideal) x0 x1 : FVec Ideal S16x16x128x128x3x3 .f32) (ix6 b o r w p t)
      = conj (fun p q => matsOf (val_main_v137 (F := Ideal) x1) o 15 1 0 p q) (padded (imgOf x0) b (r.val + 1) (w.val + 1 + 1)) p t :=
    last_tap (val_main_v235 (F := Ideal) x0) (val_main_v237 (F := Ideal) x1) _ _ b o r w
      (fun q s => (shifted_at10 x0 b r w q s).trans (by congr 1 <;> omega)) (fun p q => matrix_at10 x1 o p q) p t
  have h2 : (val_main_v249 (F := Ideal) x0 x1 : FVec Ideal S16x16x128x128x3x3 .f32) (ix6 b o r w p t)
      = conj (fun p q => matsOf (val_main_v137 (F := Ideal) x1) o 15 0 2 p q) (padded (imgOf x0) b (r.val + 1 + 1) (w.val + 1 - 1)) p t :=
    last_tap (val_main_v244 (F := Ideal) x0) (val_main_v246 (F := Ideal) x1) _ _ b o r w
      (fun q s => (shifted_at02 x0 b r w q s).trans (by congr 1 <;> omega)) (fun p q => matrix_at02 x1 o p q) p t
  have h3 : (val_main_v257 (F := Ideal) x0 x1 : FVec Ideal S16x16x128x128x3x3 .f32) (ix6 b o r w p t)
      = conj (fun p q => matsOf (val_main_v137 (F := Ideal) x1) o 15 0 1 p q) (padded (imgOf x0) b (r.val + 1 + 1) (w.val + 1)) p t :=
    last_tap (val_main_v252 (F := Ideal) x0) (val_main_v254 (F := Ideal) x1) _ _ b o r w
      (fun q s => (shifted_at01 x0 b r w q s).trans (by congr 1 <;> omega)) (fun p q => matrix_at01 x1 o p q) p t
  have h4 : (val_main_v265 (F := Ideal) x0 x1 : FVec Ideal S16x16x128x128x3x3 .f32) (ix6 b o r w p t)
      = conj (fun p q => matsOf (val_main_v137 (F := Ideal) x1) o 15 0 0 p q) (padded (imgOf x0) b (r.val + 1 + 1) (w.val + 1 + 1)) p t :=
    last_tap (val_main_v260 (F := Ideal) x0) (val_main_v262 (F := Ideal) x1) _ _ b o r w
      (fun q s => (shifted_at00 x0 b r w q s).trans (by congr 1 <;> omega)) (fun p q => matrix_at00 x1 o p q) p t
  unfold inside
  rw [← h0]
  exact congrArg₂ (fun u v : EReal => u + v) (congrArg₂ (fun u v : EReal => u + v) (congrArg₂ (fun u v : EReal => u + v) (congrArg (fun v : EReal => _ + v) h1) h2) h3) h4

/-- The reference's result. -/
theorem reference_at (x0 : FVec Ideal S16x16x128x128x3x3 .f32) (x1 : FVec Ideal S16x16x8x3 .f32) (b o : Fin 16) (R C : Fin 130) (p t : Fin 3) :
    (val_main_v270 (F := Ideal) x0 x1 : FVec Ideal S16x16x130x130x3x3 .f32) (ix6 b o R C p t)
      = outcome (imgOf x0) (matsOf (val_main_v137 (F := Ideal) x1)) b o R.val C.val p t := by
  unfold val_main_v270
  refine (scatter_window _ (val_main_v228 (F := Ideal) x0 x1) (val_main_v269 (F := Ideal)) (val_main_v266 (F := Ideal) x0 x1) 1 1 rfl rfl b o R C p t).trans ?_
  unfold outcome
  split_ifs with h1
  · refine (inner_at x0 x1 b o _ _ p t).trans ?_
    rw [Nat.sub_add_cancel h1.1.1, Nat.sub_add_cancel h1.2.1]
  · exact spread_at x0 x1 b o R C p t

end Cert.Cayley
-- ==== Proof.ReferenceGroup.lean ====
/- The reference's array of Cayley matrices, read at an index. -/
module

public import proofs.«01_k».proof.Proof.ScatterWindow
public import proofs.«01_k».proof.Proof.CayleyMatrix

@[expose] public section

noncomputable section

namespace Cert.Cayley

open Cert.ReferenceIdeal Cert.ReferenceIdeal.Read Cert.ReferenceIdeal.Facts₀ Cert.ReferenceIdeal.Facts Idealize.ShloMosaic Idealize.ShloMosaic.TcCoe Idealize.ShloMosaic.StableHlo

/-- The parameters of tap `j` (of nine): row `j`, the last one row 4. -/
def params (g : FVec Ideal S16x16x8x3 .f32) (o i : Fin 16) (j : Fin 9) (r : Fin 3) : EReal :=
  g (ix4 o i ⟨if j.val = 8 then 4 else j.val, by split <;> omega⟩ r)

/-- The row the reference takes for tap `j`. -/
theorem ref_row_at (j : Fin 9) : min ((val_main_v10 (F := Ideal) : IVec S9x1 32) (ix2 j 0)).toInt.toNat 7 = if j.val = 8 then 4 else j.val := by
  unfold val_main_v10 val_main_v9 val_main_v8 val_main_v7 val_main_v6 val_main_v5 val_main_v4 val_main_v3 val_main_v2 val_main_v1 val_main_v0 val_main_c val_main_c_0 val_main_c_1 val_main_c_2
  pointwise
  revert j
  decide

theorem ref_eye_at (p q : Fin 3) : (val_main_v23 (F := Ideal) : FVec Ideal S3x3 .f32) (ix2 p q) = eye p q := by
  unfold val_main_v23 val_main_v22 val_main_v21 val_main_v20 val_main_v19 val_main_v18 val_main_c_3
  pointwise
  exact eye_word p q

theorem ref_params_at (g : FVec Ideal S16x16x8x3 .f32) (o i : Fin 16) (j : Fin 9) (r : Fin 3) :
    (val_main_v11 (F := Ideal) g : FVec Ideal S16x16x9x3 .f32) (ix4 o i j r) = params g o i j r := by
  unfold val_main_v11 params
  refine congrArg g (funext fun x => Fin.ext ?_)
  have h := ref_row_at j
  generalize (val_main_v10 (F := Ideal)) = idx at *
  have s2 : GatherDims.start gather_S16x16x8x3_S9x1_S16x16x9x3_013_2_n_n_2_1_161613 (ix4 o i j r) idx 2 = min (idx (ix2 j 0)).toInt.toNat 7 := by
    refine Eq.trans (b := min (idx _).toInt.toNat 7) rfl (congrArg (fun i => min (idx i).toInt.toNat 7) ?_)
    funext x; fin_cases x <;> rfl
  fin_cases x
  · exact (Nat.zero_add _).trans rfl
  · exact (Nat.zero_add _).trans rfl
  · exact s2.trans h
  · exact (Nat.zero_add _).trans rfl

theorem ref_skew_at (g : FVec Ideal S16x16x8x3 .f32) (o i : Fin 16) (j : Fin 9) (p q : Fin 3) :
    (val_main_v43 (F := Ideal) g : FVec Ideal S16x16x9x3x3 .f32) (ix5 o i j p q) = skew (params g o i j) p q := by
  have hp := ref_params_at g o i j
  have hz : FloatOps.ofBits (F := Ideal) FTy.f32 0#32 = (0 : EReal) := Ideal.ofBits_zero_f32
  unfold val_main_v43 val_main_v42 val_main_v41 val_main_v40 val_main_v39 val_main_v38 val_main_v37 val_main_v36 val_main_v35 val_main_v34 val_main_v33 val_main_v32 val_main_v31 val_main_v30 val_main_v29 val_main_v28 val_main_v27 val_main_v26 val_main_v25 val_main_v24 val_main_v17 val_main_v16 val_main_v15 val_main_v14 val_main_v13 val_main_v12 val_main_cst
  generalize val_main_v11 (F := Ideal) g = A at *
  fin_cases p <;> fin_cases q <;> pointwise <;> first | exact hz | exact hp _ | exact congrArg (fun y : EReal => -y) (hp _)

theorem centre_lands (idx : IVec S1 32) (hi : (idx (ix1 0)).toInt = 4) (k : S16x16x3x3.Idx) (o i : Fin 16) (j : Fin 9) (p q : Fin 3) :
    ScatterDims.resultIdx? scatter_S16x16x9x3x3_S1_S16x16x3x3_0123_2_2_0 k idx = some (ix5 o i j p q)
      ↔ ((k 0).val = o.val ∧ (k 1).val = i.val ∧ 4 = j.val ∧ (k 2).val = p.val ∧ (k 3).val = q.val) := by
  rw [Routing.resultIdx?_eq_some]
  have s2 : ScatterDims.start scatter_S16x16x9x3x3_S1_S16x16x3x3_0123_2_2_0 k idx 2 = (idx (ix1 0)).toInt := by
    refine Eq.trans (b := (idx _).toInt) rfl (congrArg (fun i => (idx i).toInt) ?_)
    funext x; fin_cases x; rfl
  have z0 : ScatterDims.start scatter_S16x16x9x3x3_S1_S16x16x3x3_0123_2_2_0 k idx 0 = 0 := rfl
  have z1 : ScatterDims.start scatter_S16x16x9x3x3_S1_S16x16x3x3_0123_2_2_0 k idx 1 = 0 := rfl
  have z3 : ScatterDims.start scatter_S16x16x9x3x3_S1_S16x16x3x3_0123_2_2_0 k idx 3 = 0 := rfl
  have z4 : ScatterDims.start scatter_S16x16x9x3x3_S1_S16x16x3x3_0123_2_2_0 k idx 4 = 0 := rfl
  have w0 : ScatterDims.window scatter_S16x16x9x3x3_S1_S16x16x3x3_0123_2_2_0 k 0 = (k 0).val := rfl
  have w1 : ScatterDims.window scatter_S16x16x9x3x3_S1_S16x16x3x3_0123_2_2_0 k 1 = (k 1).val := rfl
  have w2 : ScatterDims.window scatter_S16x16x9x3x3_S1_S16x16x3x3_0123_2_2_0 k 2 = 0 := rfl
  have w3 : ScatterDims.window scatter_S16x16x9x3x3_S1_S16x16x3x3_0123_2_2_0 k 3 = (k 2).val := rfl
  have w4 : ScatterDims.window scatter_S16x16x9x3x3_S1_S16x16x3x3_0123_2_2_0 k 4 = (k 3).val := rfl
  constructor
  · intro h
    have h0 : (_ : ℤ) = (o.val : ℤ) := h 0
    have h1 : (_ : ℤ) = (i.val : ℤ) := h 1
    have h2 : (_ : ℤ) = (j.val : ℤ) := h 2
    have h3 : (_ : ℤ) = (p.val : ℤ) := h 3
    have h4 : (_ : ℤ) = (q.val : ℤ) := h 4
    rw [z0, w0] at h0; rw [z1, w1] at h1; rw [s2, w2, hi] at h2; rw [z3, w3] at h3; rw [z4, w4] at h4
    omega
  · rintro ⟨h0, h1, h2, h3, h4⟩ x
    fin_cases x
    · show (_ : ℤ) = (o.val : ℤ); erw [z0, w0]; omega
    · show (_ : ℤ) = (i.val : ℤ); erw [z1, w1]; omega
    · show (_ : ℤ) = (j.val : ℤ); erw [s2, w2, hi]; omega
    · show (_ : ℤ) = (p.val : ℤ); erw [z3, w3]; omega
    · show (_ : ℤ) = (q.val : ℤ); erw [z4, w4]; omega

/-- A matrix set at the centre tap. -/
theorem centre_at (x : FVec Ideal S16x16x9x3x3 .f32) (idx : IVec S1 32) (hi : (idx (ix1 0)).toInt = 4) (upd : FVec Ideal S16x16x3x3 .f32)
    (o i : Fin 16) (j : Fin 9) (p q : Fin 3) :
    Host.scatter scatter_S16x16x9x3x3_S1_S16x16x3x3_0123_2_2_0 (fun _ b => b) x idx upd (ix5 o i j p q)
      = if j.val = 4 then upd (ix4 o i p q) else x (ix5 o i j p q) := by
  split
  · next h =>
    refine scatter_one _ (fun _ b => b) x idx upd _ _ fun k => (centre_lands idx hi k o i j p q).trans ⟨?_, ?_⟩
    · rintro ⟨h0, h1, h2, h3, h4⟩
      funext x
      fin_cases x
      · exact Fin.ext h0
      · exact Fin.ext h1
      · exact Fin.ext h3
      · exact Fin.ext h4
    · rintro rfl
      exact ⟨rfl, rfl, h.symm, rfl, rfl⟩
  · next h =>
    refine scatter_zero _ (fun _ b => b) x idx upd _ fun k hk => h ?_
    exact ((centre_lands idx hi k o i j p q).1 hk).2.2.1.symm

theorem ref_upper_at (g : FVec Ideal S16x16x8x3 .f32) (o i : Fin 16) (j : Fin 9) (p q : Fin 3) :
    (val_main_v46 (F := Ideal) g : FVec Ideal S16x16x9x3x3 .f32) (ix5 o i j p q) = upper (j.val = 4) (params g o i j) p q := by
  unfold val_main_v46
  refine (centre_at _ _ rfl _ o i j p q).trans ?_
  unfold upper
  split
  · rw [← ref_eye_at]
    unfold val_main_v45
    generalize val_main_v23 (F := Ideal) = E
    pointwise
  · exact ref_skew_at g o i j p q

theorem ref_lower_at (g : FVec Ideal S16x16x8x3 .f32) (o i : Fin 16) (j : Fin 9) (p q : Fin 3) :
    (val_main_v52 (F := Ideal) g : FVec Ideal S16x16x9x3x3 .f32) (ix5 o i j p q) = lower (j.val = 4) (params g o i j) p q := by
  unfold val_main_v52
  refine (centre_at _ _ rfl _ o i j p q).trans ?_
  unfold lower
  rw [← ref_eye_at, ← ref_skew_at]
  split
  · unfold val_main_v51
    generalize val_main_v23 (F := Ideal) = E
    pointwise
  · unfold val_main_v49 val_main_v48 val_main_v47
    generalize val_main_v23 (F := Ideal) = E
    generalize val_main_v43 (F := Ideal) g = A
    pointwise
    rfl

end Cert.Cayley
-- ==== Proof.ReferenceAdjugate.lean ====
/- The reference's Cayley matrices: adjugate over determinant, times the identity plus the skew matrix. -/
module

public import proofs.«01_k».proof.Proof.ReferenceGroup

@[expose] public section

noncomputable section

namespace Cert.Cayley

open Cert.ReferenceIdeal Cert.ReferenceIdeal.Read Cert.ReferenceIdeal.Facts₀ Cert.ReferenceIdeal.Facts Idealize.ShloMosaic Idealize.ShloMosaic.TcCoe Idealize.ShloMosaic.StableHlo

/-- The nine entries of the matrix to invert, each an array of its own. -/
theorem ref_entries (g : FVec Ideal S16x16x8x3 .f32) (o i : Fin 16) (j : Fin 9) :
    (val_main_v54 (F := Ideal) g : FVec Ideal S16x16x9 .f32) (ix3 o i j) = lower (j.val = 4) (params g o i j) 0 0
    ∧ (val_main_v56 (F := Ideal) g : FVec Ideal S16x16x9 .f32) (ix3 o i j) = lower (j.val = 4) (params g o i j) 0 1
    ∧ (val_main_v58 (F := Ideal) g : FVec Ideal S16x16x9 .f32) (ix3 o i j) = lower (j.val = 4) (params g o i j) 0 2
    ∧ (val_main_v60 (F := Ideal) g : FVec Ideal S16x16x9 .f32) (ix3 o i j) = lower (j.val = 4) (params g o i j) 1 0
    ∧ (val_main_v62 (F := Ideal) g : FVec Ideal S16x16x9 .f32) (ix3 o i j) = lower (j.val = 4) (params g o i j) 1 1
    ∧ (val_main_v64 (F := Ideal) g : FVec Ideal S16x16x9 .f32) (ix3 o i j) = lower (j.val = 4) (params g o i j) 1 2
    ∧ (val_main_v66 (F := Ideal) g : FVec Ideal S16x16x9 .f32) (ix3 o i j) = lower (j.val = 4) (params g o i j) 2 0
    ∧ (val_main_v68 (F := Ideal) g : FVec Ideal S16x16x9 .f32) (ix3 o i j) = lower (j.val = 4) (params g o i j) 2 1
    ∧ (val_main_v70 (F := Ideal) g : FVec Ideal S16x16x9 .f32) (ix3 o i j) = lower (j.val = 4) (params g o i j) 2 2 := by
  have h := ref_lower_at g o i j
  unfold val_main_v70 val_main_v69 val_main_v68 val_main_v67 val_main_v66 val_main_v65 val_main_v64 val_main_v63 val_main_v62 val_main_v61 val_main_v60 val_main_v59 val_main_v58 val_main_v57 val_main_v56 val_main_v55 val_main_v54 val_main_v53
  generalize val_main_v52 (F := Ideal) g = A at *
  refine ⟨?_, ?_, ?_, ?_, ?_, ?_, ?_, ?_, ?_⟩ <;> (refine Eq.trans ?_ (h _ _); pointwise)

theorem ref_determinant_at (g : FVec Ideal S16x16x8x3 .f32) (o i : Fin 16) (j : Fin 9) :
    (val_main_v84 (F := Ideal) g : FVec Ideal S16x16x9 .f32) (ix3 o i j) = determinant (lower (j.val = 4) (params g o i j)) := by
  obtain ⟨h00, h01, h02, h10, h11, h12, h20, h21, h22⟩ := ref_entries g o i j
  unfold determinant
  rw [← h00, ← h01, ← h02, ← h10, ← h11, ← h12, ← h20, ← h21, ← h22]
  rfl

theorem ref_adjugate_at (g : FVec Ideal S16x16x8x3 .f32) (o i : Fin 16) (j : Fin 9) (p q : Fin 3) :
    (val_main_v127 (F := Ideal) g : FVec Ideal S16x16x9x3x3 .f32) (ix5 o i j p q) = adjugate (lower (j.val = 4) (params g o i j)) p q := by
  obtain ⟨h00, h01, h02, h10, h11, h12, h20, h21, h22⟩ := ref_entries g o i j
  unfold adjugate
  rw [← h00, ← h01, ← h02, ← h10, ← h11, ← h12, ← h20, ← h21, ← h22]
  unfold val_main_v127 val_main_v126 val_main_v125 val_main_v124 val_main_v123 val_main_v122 val_main_v121 val_main_v120 val_main_v110 val_main_v109 val_main_v108 val_main_v107 val_main_v97 val_main_v96 val_main_v95 val_main_v94
  have e87 : (val_main_v87 (F := Ideal) g : FVec Ideal S16x16x9 .f32) (ix3 o i j) = ((val_main_v62 (F := Ideal) g : FVec Ideal S16x16x9 .f32) (ix3 o i j) * (val_main_v70 (F := Ideal) g : FVec Ideal S16x16x9 .f32) (ix3 o i j) - (val_main_v64 (F := Ideal) g : FVec Ideal S16x16x9 .f32) (ix3 o i j) * (val_main_v68 (F := Ideal) g : FVec Ideal S16x16x9 .f32) (ix3 o i j) : EReal) := rfl
  have e90 : (val_main_v90 (F := Ideal) g : FVec Ideal S16x16x9 .f32) (ix3 o i j) = ((val_main_v58 (F := Ideal) g : FVec Ideal S16x16x9 .f32) (ix3 o i j) * (val_main_v68 (F := Ideal) g : FVec Ideal S16x16x9 .f32) (ix3 o i j) - (val_main_v56 (F := Ideal) g : FVec Ideal S16x16x9 .f32) (ix3 o i j) * (val_main_v70 (F := Ideal) g : FVec Ideal S16x16x9 .f32) (ix3 o i j) : EReal) := rfl
  have e93 : (val_main_v93 (F := Ideal) g : FVec Ideal S16x16x9 .f32) (ix3 o i j) = ((val_main_v56 (F := Ideal) g : FVec Ideal S16x16x9 .f32) (ix3 o i j) * (val_main_v64 (F := Ideal) g : FVec Ideal S16x16x9 .f32) (ix3 o i j) - (val_main_v58 (F := Ideal) g : FVec Ideal S16x16x9 .f32) (ix3 o i j) * (val_main_v62 (F := Ideal) g : FVec Ideal S16x16x9 .f32) (ix3 o i j) : EReal) := rfl
  have e100 : (val_main_v100 (F := Ideal) g : FVec Ideal S16x16x9 .f32) (ix3 o i j) = ((val_main_v64 (F := Ideal) g : FVec Ideal S16x16x9 .f32) (ix3 o i j) * (val_main_v66 (F := Ideal) g : FVec Ideal S16x16x9 .f32) (ix3 o i j) - (val_main_v60 (F := Ideal) g : FVec Ideal S16x16x9 .f32) (ix3 o i j) * (val_main_v70 (F := Ideal) g : FVec Ideal S16x16x9 .f32) (ix3 o i j) : EReal) := rfl
  have e103 : (val_main_v103 (F := Ideal) g : FVec Ideal S16x16x9 .f32) (ix3 o i j) = ((val_main_v54 (F := Ideal) g : FVec Ideal S16x16x9 .f32) (ix3 o i j) * (val_main_v70 (F := Ideal) g : FVec Ideal S16x16x9 .f32) (ix3 o i j) - (val_main_v58 (F := Ideal) g : FVec Ideal S16x16x9 .f32) (ix3 o i j) * (val_main_v66 (F := Ideal) g : FVec Ideal S16x16x9 .f32) (ix3 o i j) : EReal) := rfl
  have e106 : (val_main_v106 (F := Ideal) g : FVec Ideal S16x16x9 .f32) (ix3 o i j) = ((val_main_v58 (F := Ideal) g : FVec Ideal S16x16x9 .f32) (ix3 o i j) * (val_main_v60 (F := Ideal) g : FVec Ideal S16x16x9 .f32) (ix3 o i j) - (val_main_v54 (F := Ideal) g : FVec Ideal S16x16x9 .f32) (ix3 o i j) * (val_main_v64 (F := Ideal) g : FVec Ideal S16x16x9 .f32) (ix3 o i j) : EReal) := rfl
  have e113 : (val_main_v113 (F := Ideal) g : FVec Ideal S16x16x9 .f32) (ix3 o i j) = ((val_main_v60 (F := Ideal) g : FVec Ideal S16x16x9 .f32) (ix3 o i j) * (val_main_v68 (F := Ideal) g : FVec Ideal S16x16x9 .f32) (ix3 o i j) - (val_main_v62 (F := Ideal) g : FVec Ideal S16x16x9 .f32) (ix3 o i j) * (val_main_v66 (F := Ideal) g : FVec Ideal S16x16x9 .f32) (ix3 o i j) : EReal) := rfl
  have e116 : (val_main_v116 (F := Ideal) g : FVec Ideal S16x16x9 .f32) (ix3 o i j) = ((val_main_v56 (F := Ideal) g : FVec Ideal S16x16x9 .f32) (ix3 o i j) * (val_main_v66 (F := Ideal) g : FVec Ideal S16x16x9 .f32) (ix3 o i j) - (val_main_v54 (F := Ideal) g : FVec Ideal S16x16x9 .f32) (ix3 o i j) * (val_main_v68 (F := Ideal) g : FVec Ideal S16x16x9 .f32) (ix3 o i j) : EReal) := rfl
  have e119 : (val_main_v119 (F := Ideal) g : FVec Ideal S16x16x9 .f32) (ix3 o i j) = ((val_main_v54 (F := Ideal) g : FVec Ideal S16x16x9 .f32) (ix3 o i j) * (val_main_v62 (F := Ideal) g : FVec Ideal S16x16x9 .f32) (ix3 o i j) - (val_main_v56 (F := Ideal) g : FVec Ideal S16x16x9 .f32) (ix3 o i j) * (val_main_v60 (F := Ideal) g : FVec Ideal S16x16x9 .f32) (ix3 o i j) : EReal) := rfl
  generalize val_main_v87 (F := Ideal) g = A87 at *
  generalize val_main_v90 (F := Ideal) g = A90 at *
  generalize val_main_v93 (F := Ideal) g = A93 at *
  generalize val_main_v100 (F := Ideal) g = A100 at *
  generalize val_main_v103 (F := Ideal) g = A103 at *
  generalize val_main_v106 (F := Ideal) g = A106 at *
  generalize val_main_v113 (F := Ideal) g = A113 at *
  generalize val_main_v116 (F := Ideal) g = A116 at *
  generalize val_main_v119 (F := Ideal) g = A119 at *
  fin_cases p <;> fin_cases q <;> pointwise
  · exact e87
  · exact e90
  · exact e93
  · exact e100
  · exact e103
  · exact e106
  · exact e113
  · exact e116
  · exact e119

/-- The reference's array of Cayley matrices. -/
theorem ref_group_at (g : FVec Ideal S16x16x8x3 .f32) (o i : Fin 16) (a c p q : Fin 3) :
    (val_main_v137 (F := Ideal) g : FVec Ideal S16x16x3x3x3x3 .f32) (ix6 o i a c p q)
      = cayley (a.val * 3 + c.val = 4) (params g o i ⟨a.val * 3 + c.val, by omega⟩) p q := by
  have e : (val_main_v137 (F := Ideal) g : FVec Ideal S16x16x3x3x3x3 .f32) (ix6 o i a c p q)
      = (val_main_v136 (F := Ideal) g : FVec Ideal S16x16x9x3x3 .f32) (ix5 o i ⟨a.val * 3 + c.val, by omega⟩ p q) := by
    unfold val_main_v137
    generalize val_main_v136 (F := Ideal) g = A
    pointwise
  rw [e]
  refine (val_main_v136_apply g _).trans (Finset.sum_congr rfl fun k _ => ?_)
  have hl : lidx_main_v136 (ix5 o i ⟨a.val * 3 + c.val, by omega⟩ p q) k = ix5 o i ⟨a.val * 3 + c.val, by omega⟩ p k := by
    funext x; fin_cases x <;> rfl
  have hr : ridx_main_v136 (ix5 o i ⟨a.val * 3 + c.val, by omega⟩ p q) k = ix5 o i ⟨a.val * 3 + c.val, by omega⟩ k q := by
    funext x; fin_cases x <;> rfl
  rw [hl, hr]
  have h1 := ref_adjugate_at g o i ⟨a.val * 3 + c.val, by omega⟩ p k
  have h2 := ref_determinant_at g o i ⟨a.val * 3 + c.val, by omega⟩
  have h3 := ref_upper_at g o i ⟨a.val * 3 + c.val, by omega⟩ k q
  have h4 := ref_eye_at k q
  unfold val_main_v132 val_main_v131 val_main_v130 val_main_v129 val_main_v128 val_main_v135 val_main_v134 val_main_v133 val_main_cst_6
  rw [← h1, ← h2, ← h3, ← h4]
  generalize val_main_v127 (F := Ideal) g = A1
  generalize val_main_v84 (F := Ideal) g = A2
  generalize val_main_v46 (F := Ideal) g = A3
  generalize val_main_v23 (F := Ideal) = A4
  pointwise
  rfl

end Cert.Cayley
-- ==== Proof.Agreement.lean ====
/- The kernel's result and the reference's are one array, for an image of real numbers. -/
module

public import proofs.«01_k».proof.Proof.Equation
public import proofs.«01_k».proof.Proof.ReferenceValue
public import proofs.«01_k».proof.Proof.ReferenceAdjugate
public import proofs.«01_k».proof.Pre_image_finite

@[expose] public section

noncomputable section

namespace Cert.Cayley

open Cert.KernelIdeal Cert.KernelIdeal.Gen Idealize.ShloMosaic Idealize.ShloMosaic.TcCoe Idealize.SL.Sem

/-- An extended real whose absolute value is below infinity is a real number. -/
theorem real_of_finite (x : EReal) (h : max x (-x) < ⊤) : IsReal x := by
  rw [isReal_iff]
  refine ⟨fun e => ?_, fun e => ?_⟩
  · rw [e] at h
    exact absurd h (by simp)
  · rw [e] at h
    exact absurd h (by simp)

theorem infinity_word : (FloatOps.ofBits FTy.f32 0x7F800000#32 : Ideal .f32) = (⊤ : EReal) := by
  simp [Ideal.ofBits, Ideal.ieee]

/-- The precondition makes every entry of the image a real number. -/
theorem image_real [Cert.Pre_image_finite.Facts] (x : FVec Ideal S16x16x128x128x3x3 .f32) (g : FVec Ideal S16x16x8x3 .f32)
    (h : Cert.Pre_image_finite.fn (F := Ideal) x g = fun _ => 1#1) (j : S16x16x128x128x3x3.Idx) : IsReal (x j) := by
  have e := congrFun h j
  have e' : BitVec.ofBool (decide (max (x j : EReal) (-(x j : EReal)) < (FloatOps.ofBits FTy.f32 0x7F800000#32 : Ideal .f32))) = 1#1 := e
  rw [infinity_word] at e'
  refine real_of_finite _ ?_
  by_contra hn
  rw [decide_eq_false hn] at e'
  exact absurd e' (by decide)

/-- The two programs' Cayley matrices are the same. -/
theorem groups_agree (m : (ℓ : Loc nD τ sig) → Buf (Elt Ideal) ℓ) (d : Dev nD) (g : FVec Ideal S16x16x8x3 .f32) (hg : g = parameters m d) :
    matsOf (Cert.ReferenceIdeal.Read.val_main_v137 (F := Ideal) g) = matrices (group m d) := by
  subst hg
  funext o i a c p q
  exact (ref_group_at _ o i a c p q).trans (group_cayley m d o i a c p q).symm

/-- The array the kernel ends with. -/
def kernelResult (m : (ℓ : Loc nD τ sig) → Buf (Elt Ideal) ℓ) (c : Dev nD) : FVec Ideal S16x16x130x130x3x3 .f32 :=
  Pipeline.afterTail₀ cfgs (dats m) 0 (V0 m) [hostOps1] c main_v331

/-- The two results are the same array. -/
theorem results_agree (m : (ℓ : Loc nD τ sig) → Buf (Elt Ideal) ℓ) (d : Dev nD) (x : FVec Ideal S16x16x128x128x3x3 .f32) (g : FVec Ideal S16x16x8x3 .f32)
    (hx : x = image m d) (hg : g = parameters m d) (hr : ∀ j, IsReal (image m d j)) :
    (Cert.ReferenceIdeal.Read.val_main_v270 (F := Ideal) x g : FVec Ideal S16x16x130x130x3x3 .f32)
      = kernelResult m d := by
  funext j
  obtain ⟨b, o, R, C, p, t, rfl⟩ : ∃ (b o : Fin 16) (R C : Fin 130) (p t : Fin 3), j = ix6 b o R C p t := ⟨j 0, j 1, j 2, j 3, j 4, j 5, ValueIdx.eq_ix6 j⟩
  refine (reference_at x g b o R C p t).trans ?_
  refine Eq.trans ?_ (kernel_at m d (fun b i r w q s => hr _) b o R C p t).symm
  rw [groups_agree m d g hg, hx]

/-- The kernel's run: the result is the array above and the arguments end as they were. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v331) = kernelResult m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h.1 c).2 main_v331 (Pipeline.mem_restRefs_of main_v331 (by decide) (by decide)), h.2 c⟩)
    (θ_run_and (run_main m ρ) (unchanged m ρ))

end Cert.Cayley
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Agreement
public import Idealize.ShloMosaic.Adequacy
public import Idealize.ShloMosaic.Init
public import Idealize.ShloMosaic.Lib.Quiescent

@[expose] public section

noncomputable section

namespace Cert.Proof

open Idealize.ShloMosaic Idealize.SL.Sem

/-- The kernel terminates, leaves its arguments as they were and every semaphore counter at zero. -/
theorem frame_kernel [Cert.Kernel.Facts] : Cert.quiescent_Kernel := fun m ρ _ => Cert.Kernel.Gen.frame m ρ

/-- The same of the kernel over the extended reals. -/
theorem frame_kernelIdeal [Cert.KernelIdeal.Facts] : Cert.quiescent_KernelIdeal := fun m ρ _ => Cert.KernelIdeal.Gen.frame m ρ

/-- The same of the reference, which declares no semaphore. -/
theorem frame_referenceIdeal [Cert.ReferenceIdeal.Facts] : Cert.quiescent_ReferenceIdeal := by
  intro m ρ _
  exact (θ_run Cert.ReferenceIdeal.defs _ _).mono
    (fun r h => ⟨fun c => ⟨(h c).2.1, (h c).2.2⟩, sem_eq_zero_of_no_sems (by decide) r.2⟩)
    (Cert.ReferenceIdeal.Value.run (F := Ideal) m ρ)

/-- From memories that agree on the arguments, with an image of finite entries, the two programs end with the same array. -/
theorem results_equal [Cert.Pre_image_finite.Facts] : Cert.algebraic_KernelIdeal_ReferenceIdeal_pre_image_finite := by
  intro m ρ m' ρ' hpre hargs
  refine ⟨fun c => Cert.Cayley.kernelResult m c,
    Cert.Cayley.kernel_run m ρ, ?_⟩
  refine (θ_run Cert.ReferenceIdeal.defs _ _).mono (fun r h c => ⟨?_, (h c).2⟩) (Cert.ReferenceIdeal.Value.run (F := Ideal) m' ρ')
  refine ((h c).1.trans (Cert.ReferenceIdeal.Read.val_main_v270_eq (F := Ideal) _)).trans ?_
  exact Cert.Cayley.results_agree m c _ _ (hargs c).1 (hargs c).2 (Cert.Cayley.image_real _ _ (hpre c))

/-- The precondition's one side condition. -/
theorem finite_facts : Cert.Pre_image_finite.Facts := ⟨by decide⟩

theorem claim : Cert.Claim :=
  ⟨Cert.Kernel.Gen.facts, Cert.KernelIdeal.Gen.facts, Cert.ReferenceIdeal.Gen.facts, finite_facts,
    frame_kernel, frame_kernelIdeal, fun m ρ _ => frame_kernelIdeal m ρ trivial, frame_referenceIdeal,
    fun m ρ _ => frame_referenceIdeal m ρ trivial, trivial, @results_equal finite_facts⟩

end Cert.Proof

end
